-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S8x2x512x1024 : Shape := ⟨4, ![8, 2, 512, 1024]⟩
abbrev S8x8x128 : Shape := ⟨3, ![8, 8, 128]⟩
abbrev S8x2 : Shape := ⟨2, ![8, 2]⟩
abbrev S7 : Shape := ⟨1, ![7]⟩
abbrev S_ : Shape := ⟨0, ![]⟩
abbrev S8 : Shape := ⟨1, ![8]⟩
abbrev S512x512 : Shape := ⟨2, ![512, 512]⟩
abbrev S512x1024 : Shape := ⟨2, ![512, 1024]⟩
abbrev S1x1x512x1024 : Shape := ⟨4, ![1, 1, 512, 1024]⟩
abbrev S1x1 : Shape := ⟨2, ![1, 1]⟩
abbrev S1 : Shape := ⟨1, ![1]⟩
abbrev S1x512x1024 : Shape := ⟨3, ![1, 512, 1024]⟩
abbrev S1x1x1 : Shape := ⟨3, ![1, 1, 1]⟩
abbrev S8x128 : Shape := ⟨2, ![8, 128]⟩
abbrev S1x8x128 : Shape := ⟨3, ![1, 8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S512x8192, .f32⟩
  | .local _ .vmem, ⟨0, _⟩ => ⟨S4096x512, .bf16⟩
  | .local _ .vmem, ⟨1, _⟩ => ⟨S512x8192, .bf16⟩
  | .local _ .vmem, ⟨2, _⟩ => ⟨S512x8192, .f32⟩
  | .local _ .vmem, ⟨3, _⟩ => ⟨S8x2x512x1024, .bf16⟩
  | .local _ .vmem, ⟨4, _⟩ => ⟨S8x8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 9 43 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 8

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.addi v2 c7_i32
  let c8_i32_10 : BitVec 32 := 8#32
  let v14 : BitVec 32 := Scalar.remsi v13 c8_i32_10
  let c512_i32 : BitVec 32 := 512#32
  let v15 : BitVec 32 := Scalar.muli v14 c512_i32
  let v16 : Index := Scalar.indexCast v15
  let c0 : Index := 0#32
  ![v16.toNat, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_25 : BitVec 32 := 1#32
  let v26 : BitVec 32 := Scalar.muli v7 c1_i32_25
  let v27 : BitVec 32 := Scalar.addi c0_i32_26 v26
  v27.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_47 : BitVec 32 := 1#32
  let v49 : BitVec 32 := Scalar.muli v5 c1_i32_47
  let v50 : BitVec 32 := Scalar.addi c0_i32_48 v49
  v50.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_70 : BitVec 32 := 1#32
  let v72 : BitVec 32 := Scalar.muli v7 c1_i32_70
  let v73 : BitVec 32 := Scalar.addi c0_i32_71 v72
  v73.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_92 : BitVec 32 := 1#32
  let v95 : BitVec 32 := Scalar.muli v5 c1_i32_92
  let v96 : BitVec 32 := Scalar.addi c0_i32_93 v95
  v96.toNat
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_114 : BitVec 32 := 1#32
  let v118 : BitVec 32 := Scalar.muli v7 c1_i32_114
  let v119 : BitVec 32 := Scalar.addi c0_i32_115 v118
  v119.toNat
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_136 : BitVec 32 := 1#32
  let v141 : BitVec 32 := Scalar.muli v5 c1_i32_136
  let v142 : BitVec 32 := Scalar.addi c0_i32_137 v141
  v142.toNat
def k0_dev9 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_158 : BitVec 32 := 1#32
  let v164 : BitVec 32 := Scalar.muli v7 c1_i32_158
  let v165 : BitVec 32 := Scalar.addi c0_i32_159 v164
  v165.toNat
def k0_dev10 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_181 : BitVec 32 := 1#32
  let v187 : BitVec 32 := Scalar.muli v5 c1_i32_181
  let v188 : BitVec 32 := Scalar.addi c0_i32_182 v187
  v188.toNat
def k0_dev11 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_230 : BitVec 32 := 1#32
  let v230 : BitVec 32 := Scalar.muli v5 c1_i32_230
  let v231 : BitVec 32 := Scalar.addi c0_i32_231 v230
  v231.toNat
def k0_dev12 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_243 : BitVec 32 := 1#32
  let v234 : BitVec 32 := Scalar.muli v7 c1_i32_243
  let v235 : BitVec 32 := Scalar.addi c0_i32_244 v234
  v235.toNat
def k0_dev13 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_292 : BitVec 32 := 1#32
  let v277 : BitVec 32 := Scalar.muli v7 c1_i32_292
  let v278 : BitVec 32 := Scalar.addi c0_i32_293 v277
  v278.toNat
def k0_dev14 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_305 : BitVec 32 := 1#32
  let v281 : BitVec 32 := Scalar.muli v5 c1_i32_305
  let v282 : BitVec 32 := Scalar.addi c0_i32_306 v281
  v282.toNat
def k0_dev15 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_355 : BitVec 32 := 1#32
  let v324 : BitVec 32 := Scalar.muli v5 c1_i32_355
  let v325 : BitVec 32 := Scalar.addi c0_i32_356 v324
  v325.toNat
def k0_dev16 (d0 : Dev nD) : Nat :=
  let c0_i32_369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_368 : BitVec 32 := 1#32
  let v328 : BitVec 32 := Scalar.muli v7 c1_i32_368
  let v329 : BitVec 32 := Scalar.addi c0_i32_369 v328
  v329.toNat
def k0_dev17 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_418 : BitVec 32 := 1#32
  let v371 : BitVec 32 := Scalar.muli v7 c1_i32_418
  let v372 : BitVec 32 := Scalar.addi c0_i32_419 v371
  v372.toNat
def k0_dev18 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_431 : BitVec 32 := 1#32
  let v375 : BitVec 32 := Scalar.muli v5 c1_i32_431
  let v376 : BitVec 32 := Scalar.addi c0_i32_432 v375
  v376.toNat
def k0_dev19 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_481 : BitVec 32 := 1#32
  let v418 : BitVec 32 := Scalar.muli v5 c1_i32_481
  let v419 : BitVec 32 := Scalar.addi c0_i32_482 v418
  v419.toNat
def k0_dev20 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_494 : BitVec 32 := 1#32
  let v422 : BitVec 32 := Scalar.muli v7 c1_i32_494
  let v423 : BitVec 32 := Scalar.addi c0_i32_495 v422
  v423.toNat
def k0_dev21 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_544 : BitVec 32 := 1#32
  let v465 : BitVec 32 := Scalar.muli v7 c1_i32_544
  let v466 : BitVec 32 := Scalar.addi c0_i32_545 v465
  v466.toNat
def k0_dev22 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_557 : BitVec 32 := 1#32
  let v469 : BitVec 32 := Scalar.muli v5 c1_i32_557
  let v470 : BitVec 32 := Scalar.addi c0_i32_558 v469
  v470.toNat
def k0_dev23 (d0 : Dev nD) : Nat :=
  let c0_i32_608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_607 : BitVec 32 := 1#32
  let v512 : BitVec 32 := Scalar.muli v5 c1_i32_607
  let v513 : BitVec 32 := Scalar.addi c0_i32_608 v512
  v513.toNat
def k0_dev24 (d0 : Dev nD) : Nat :=
  let c0_i32_621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_620 : BitVec 32 := 1#32
  let v516 : BitVec 32 := Scalar.muli v7 c1_i32_620
  let v517 : BitVec 32 := Scalar.addi c0_i32_621 v516
  v517.toNat
def k0_dev25 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_670 : BitVec 32 := 1#32
  let v559 : BitVec 32 := Scalar.muli v7 c1_i32_670
  let v560 : BitVec 32 := Scalar.addi c0_i32_671 v559
  v560.toNat
def k0_dev26 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_683 : BitVec 32 := 1#32
  let v563 : BitVec 32 := Scalar.muli v5 c1_i32_683
  let v564 : BitVec 32 := Scalar.addi c0_i32_684 v563
  v564.toNat
def k0_dev27 (d0 : Dev nD) : Nat :=
  let c0_i32_733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_732 : BitVec 32 := 1#32
  let v606 : BitVec 32 := Scalar.muli v5 c1_i32_732
  let v607 : BitVec 32 := Scalar.addi c0_i32_733 v606
  v607.toNat
def k0_dev28 (d0 : Dev nD) : Nat :=
  let c0_i32_746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_745 : BitVec 32 := 1#32
  let v610 : BitVec 32 := Scalar.muli v7 c1_i32_745
  let v611 : BitVec 32 := Scalar.addi c0_i32_746 v610
  v611.toNat
def k0_dev29 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_794 : BitVec 32 := 1#32
  let v653 : BitVec 32 := Scalar.muli v7 c1_i32_794
  let v654 : BitVec 32 := Scalar.addi c0_i32_795 v653
  v654.toNat
def k0_dev30 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_807 : BitVec 32 := 1#32
  let v657 : BitVec 32 := Scalar.muli v5 c1_i32_807
  let v658 : BitVec 32 := Scalar.addi c0_i32_808 v657
  v658.toNat
def k0_dev31 (d0 : Dev nD) : Nat :=
  let c0_i32_858 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_857 : BitVec 32 := 1#32
  let v700 : BitVec 32 := Scalar.muli v5 c1_i32_857
  let v701 : BitVec 32 := Scalar.addi c0_i32_858 v700
  v701.toNat
def k0_dev32 (d0 : Dev nD) : Nat :=
  let c0_i32_871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_870 : BitVec 32 := 1#32
  let v704 : BitVec 32 := Scalar.muli v7 c1_i32_870
  let v705 : BitVec 32 := Scalar.addi c0_i32_871 v704
  v705.toNat
def k0_dev33 (d0 : Dev nD) : Nat :=
  let c0_i32_921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_920 : BitVec 32 := 1#32
  let v747 : BitVec 32 := Scalar.muli v7 c1_i32_920
  let v748 : BitVec 32 := Scalar.addi c0_i32_921 v747
  v748.toNat
def k0_dev34 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_933 : BitVec 32 := 1#32
  let v751 : BitVec 32 := Scalar.muli v5 c1_i32_933
  let v752 : BitVec 32 := Scalar.addi c0_i32_934 v751
  v752.toNat
def k0_dev35 (d0 : Dev nD) : Nat :=
  let c0_i32_984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_983 : BitVec 32 := 1#32
  let v794 : BitVec 32 := Scalar.muli v5 c1_i32_983
  let v795 : BitVec 32 := Scalar.addi c0_i32_984 v794
  v795.toNat
def k0_dev36 (d0 : Dev nD) : Nat :=
  let c0_i32_997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_996 : BitVec 32 := 1#32
  let v798 : BitVec 32 := Scalar.muli v7 c1_i32_996
  let v799 : BitVec 32 := Scalar.addi c0_i32_997 v798
  v799.toNat
def k0_dev37 (d0 : Dev nD) : Nat :=
  let c0_i32_1047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1046 : BitVec 32 := 1#32
  let v841 : BitVec 32 := Scalar.muli v7 c1_i32_1046
  let v842 : BitVec 32 := Scalar.addi c0_i32_1047 v841
  v842.toNat
def k0_dev38 (d0 : Dev nD) : Nat :=
  let c0_i32_1060 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1059 : BitVec 32 := 1#32
  let v845 : BitVec 32 := Scalar.muli v5 c1_i32_1059
  let v846 : BitVec 32 := Scalar.addi c0_i32_1060 v845
  v846.toNat
def k0_dev39 (d0 : Dev nD) : Nat :=
  let c0_i32_1110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1109 : BitVec 32 := 1#32
  let v888 : BitVec 32 := Scalar.muli v5 c1_i32_1109
  let v889 : BitVec 32 := Scalar.addi c0_i32_1110 v888
  v889.toNat
def k0_dev40 (d0 : Dev nD) : Nat :=
  let c0_i32_1123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1122 : BitVec 32 := 1#32
  let v892 : BitVec 32 := Scalar.muli v7 c1_i32_1122
  let v893 : BitVec 32 := Scalar.addi c0_i32_1123 v892
  v893.toNat
def k0_dev41 (d0 : Dev nD) : Nat :=
  let c0_i32_1173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1172 : BitVec 32 := 1#32
  let v935 : BitVec 32 := Scalar.muli v7 c1_i32_1172
  let v936 : BitVec 32 := Scalar.addi c0_i32_1173 v935
  v936.toNat
def k0_dev42 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1185 : BitVec 32 := 1#32
  let v939 : BitVec 32 := Scalar.muli v5 c1_i32_1185
  let v940 : BitVec 32 := Scalar.addi c0_i32_1186 v939
  v940.toNat
def k0_dev43 (d0 : Dev nD) : Nat :=
  let c0_i32_1235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1234 : BitVec 32 := 1#32
  let v982 : BitVec 32 := Scalar.muli v5 c1_i32_1234
  let v983 : BitVec 32 := Scalar.addi c0_i32_1235 v982
  v983.toNat
def k0_dev44 (d0 : Dev nD) : Nat :=
  let c0_i32_1248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1247 : BitVec 32 := 1#32
  let v986 : BitVec 32 := Scalar.muli v7 c1_i32_1247
  let v987 : BitVec 32 := Scalar.addi c0_i32_1248 v986
  v987.toNat
def k0_dev45 (d0 : Dev nD) : Nat :=
  let c0_i32_1298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1297 : BitVec 32 := 1#32
  let v1029 : BitVec 32 := Scalar.muli v7 c1_i32_1297
  let v1030 : BitVec 32 := Scalar.addi c0_i32_1298 v1029
  v1030.toNat
def k0_dev46 (d0 : Dev nD) : Nat :=
  let c0_i32_1311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1310 : BitVec 32 := 1#32
  let v1033 : BitVec 32 := Scalar.muli v5 c1_i32_1310
  let v1034 : BitVec 32 := Scalar.addi c0_i32_1311 v1033
  v1034.toNat
def k0_dev47 (d0 : Dev nD) : Nat :=
  let c0_i32_1361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1360 : BitVec 32 := 1#32
  let v1076 : BitVec 32 := Scalar.muli v5 c1_i32_1360
  let v1077 : BitVec 32 := Scalar.addi c0_i32_1361 v1076
  v1077.toNat
def k0_dev48 (d0 : Dev nD) : Nat :=
  let c0_i32_1374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1373 : BitVec 32 := 1#32
  let v1080 : BitVec 32 := Scalar.muli v7 c1_i32_1373
  let v1081 : BitVec 32 := Scalar.addi c0_i32_1374 v1080
  v1081.toNat
def k0_dev49 (d0 : Dev nD) : Nat :=
  let c0_i32_1424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1423 : BitVec 32 := 1#32
  let v1123 : BitVec 32 := Scalar.muli v7 c1_i32_1423
  let v1124 : BitVec 32 := Scalar.addi c0_i32_1424 v1123
  v1124.toNat
def k0_dev50 (d0 : Dev nD) : Nat :=
  let c0_i32_1437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1436 : BitVec 32 := 1#32
  let v1127 : BitVec 32 := Scalar.muli v5 c1_i32_1436
  let v1128 : BitVec 32 := Scalar.addi c0_i32_1437 v1127
  v1128.toNat
def k0_dev51 (d0 : Dev nD) : Nat :=
  let c0_i32_1487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1486 : BitVec 32 := 1#32
  let v1170 : BitVec 32 := Scalar.muli v5 c1_i32_1486
  let v1171 : BitVec 32 := Scalar.addi c0_i32_1487 v1170
  v1171.toNat
def k0_dev52 (d0 : Dev nD) : Nat :=
  let c0_i32_1500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1499 : BitVec 32 := 1#32
  let v1174 : BitVec 32 := Scalar.muli v7 c1_i32_1499
  let v1175 : BitVec 32 := Scalar.addi c0_i32_1500 v1174
  v1175.toNat
def k0_dev53 (d0 : Dev nD) : Nat :=
  let c0_i32_1550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1549 : BitVec 32 := 1#32
  let v1217 : BitVec 32 := Scalar.muli v7 c1_i32_1549
  let v1218 : BitVec 32 := Scalar.addi c0_i32_1550 v1217
  v1218.toNat
def k0_dev54 (d0 : Dev nD) : Nat :=
  let c0_i32_1563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1562 : BitVec 32 := 1#32
  let v1221 : BitVec 32 := Scalar.muli v5 c1_i32_1562
  let v1222 : BitVec 32 := Scalar.addi c0_i32_1563 v1221
  v1222.toNat
def k0_dev55 (d0 : Dev nD) : Nat :=
  let c0_i32_1613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1612 : BitVec 32 := 1#32
  let v1264 : BitVec 32 := Scalar.muli v5 c1_i32_1612
  let v1265 : BitVec 32 := Scalar.addi c0_i32_1613 v1264
  v1265.toNat
def k0_dev56 (d0 : Dev nD) : Nat :=
  let c0_i32_1626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1625 : BitVec 32 := 1#32
  let v1268 : BitVec 32 := Scalar.muli v7 c1_i32_1625
  let v1269 : BitVec 32 := Scalar.addi c0_i32_1626 v1268
  v1269.toNat
def k0_dev57 (d0 : Dev nD) : Nat :=
  let c0_i32_1676 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1675 : BitVec 32 := 1#32
  let v1311 : BitVec 32 := Scalar.muli v7 c1_i32_1675
  let v1312 : BitVec 32 := Scalar.addi c0_i32_1676 v1311
  v1312.toNat
def k0_dev58 (d0 : Dev nD) : Nat :=
  let c0_i32_1689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1688 : BitVec 32 := 1#32
  let v1315 : BitVec 32 := Scalar.muli v5 c1_i32_1688
  let v1316 : BitVec 32 := Scalar.addi c0_i32_1689 v1315
  v1316.toNat
def k0_dev59 (d0 : Dev nD) : Nat :=
  let c0_i32_1739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1738 : BitVec 32 := 1#32
  let v1358 : BitVec 32 := Scalar.muli v5 c1_i32_1738
  let v1359 : BitVec 32 := Scalar.addi c0_i32_1739 v1358
  v1359.toNat
def k0_dev60 (d0 : Dev nD) : Nat :=
  let c0_i32_1752 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1751 : BitVec 32 := 1#32
  let v1362 : BitVec 32 := Scalar.muli v7 c1_i32_1751
  let v1363 : BitVec 32 := Scalar.addi c0_i32_1752 v1362
  v1363.toNat
def k0_dev61 (d0 : Dev nD) : Nat :=
  let c0_i32_1802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1801 : BitVec 32 := 1#32
  let v1405 : BitVec 32 := Scalar.muli v7 c1_i32_1801
  let v1406 : BitVec 32 := Scalar.addi c0_i32_1802 v1405
  v1406.toNat
def k0_dev62 (d0 : Dev nD) : Nat :=
  let c0_i32_1815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1814 : BitVec 32 := 1#32
  let v1409 : BitVec 32 := Scalar.muli v5 c1_i32_1814
  let v1410 : BitVec 32 := Scalar.addi c0_i32_1815 v1409
  v1410.toNat
def k0_dev63 (d0 : Dev nD) : Nat :=
  let c0_i32_1865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1864 : BitVec 32 := 1#32
  let v1452 : BitVec 32 := Scalar.muli v5 c1_i32_1864
  let v1453 : BitVec 32 := Scalar.addi c0_i32_1865 v1452
  v1453.toNat
def k0_dev64 (d0 : Dev nD) : Nat :=
  let c0_i32_1878 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1877 : BitVec 32 := 1#32
  let v1456 : BitVec 32 := Scalar.muli v7 c1_i32_1877
  let v1457 : BitVec 32 := Scalar.addi c0_i32_1878 v1456
  v1457.toNat
def k0_dev65 (d0 : Dev nD) : Nat :=
  let c0_i32_1928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1927 : BitVec 32 := 1#32
  let v1499 : BitVec 32 := Scalar.muli v7 c1_i32_1927
  let v1500 : BitVec 32 := Scalar.addi c0_i32_1928 v1499
  v1500.toNat
def k0_dev66 (d0 : Dev nD) : Nat :=
  let c0_i32_1941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1940 : BitVec 32 := 1#32
  let v1503 : BitVec 32 := Scalar.muli v5 c1_i32_1940
  let v1504 : BitVec 32 := Scalar.addi c0_i32_1941 v1503
  v1504.toNat
def k0_dev67 (d0 : Dev nD) : Nat :=
  let c0_i32_1991 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1990 : BitVec 32 := 1#32
  let v1546 : BitVec 32 := Scalar.muli v5 c1_i32_1990
  let v1547 : BitVec 32 := Scalar.addi c0_i32_1991 v1546
  v1547.toNat
def k0_dev68 (d0 : Dev nD) : Nat :=
  let c0_i32_2004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2003 : BitVec 32 := 1#32
  let v1550 : BitVec 32 := Scalar.muli v7 c1_i32_2003
  let v1551 : BitVec 32 := Scalar.addi c0_i32_2004 v1550
  v1551.toNat
def k0_dev69 (d0 : Dev nD) : Nat :=
  let c0_i32_2054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2053 : BitVec 32 := 1#32
  let v1593 : BitVec 32 := Scalar.muli v7 c1_i32_2053
  let v1594 : BitVec 32 := Scalar.addi c0_i32_2054 v1593
  v1594.toNat
def k0_dev70 (d0 : Dev nD) : Nat :=
  let c0_i32_2067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2066 : BitVec 32 := 1#32
  let v1597 : BitVec 32 := Scalar.muli v5 c1_i32_2066
  let v1598 : BitVec 32 := Scalar.addi c0_i32_2067 v1597
  v1598.toNat
def k0_dev71 (d0 : Dev nD) : Nat :=
  let c0_i32_2117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2116 : BitVec 32 := 1#32
  let v1640 : BitVec 32 := Scalar.muli v5 c1_i32_2116
  let v1641 : BitVec 32 := Scalar.addi c0_i32_2117 v1640
  v1641.toNat
def k0_dev72 (d0 : Dev nD) : Nat :=
  let c0_i32_2130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2129 : BitVec 32 := 1#32
  let v1644 : BitVec 32 := Scalar.muli v7 c1_i32_2129
  let v1645 : BitVec 32 := Scalar.addi c0_i32_2130 v1644
  v1645.toNat
def k0_dev73 (d0 : Dev nD) : Nat :=
  let c0_i32_2180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2179 : BitVec 32 := 1#32
  let v1687 : BitVec 32 := Scalar.muli v7 c1_i32_2179
  let v1688 : BitVec 32 := Scalar.addi c0_i32_2180 v1687
  v1688.toNat
def k0_dev74 (d0 : Dev nD) : Nat :=
  let c0_i32_2193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2192 : BitVec 32 := 1#32
  let v1691 : BitVec 32 := Scalar.muli v5 c1_i32_2192
  let v1692 : BitVec 32 := Scalar.addi c0_i32_2193 v1691
  v1692.toNat
def k0_dev75 (d0 : Dev nD) : Nat :=
  let c0_i32_2243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2242 : BitVec 32 := 1#32
  let v1734 : BitVec 32 := Scalar.muli v5 c1_i32_2242
  let v1735 : BitVec 32 := Scalar.addi c0_i32_2243 v1734
  v1735.toNat
def k0_dev76 (d0 : Dev nD) : Nat :=
  let c0_i32_2256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2255 : BitVec 32 := 1#32
  let v1738 : BitVec 32 := Scalar.muli v7 c1_i32_2255
  let v1739 : BitVec 32 := Scalar.addi c0_i32_2256 v1738
  v1739.toNat
def k0_dev77 (d0 : Dev nD) : Nat :=
  let c0_i32_2306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2305 : BitVec 32 := 1#32
  let v1781 : BitVec 32 := Scalar.muli v7 c1_i32_2305
  let v1782 : BitVec 32 := Scalar.addi c0_i32_2306 v1781
  v1782.toNat
def k0_dev78 (d0 : Dev nD) : Nat :=
  let c0_i32_2319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2318 : BitVec 32 := 1#32
  let v1785 : BitVec 32 := Scalar.muli v5 c1_i32_2318
  let v1786 : BitVec 32 := Scalar.addi c0_i32_2319 v1785
  v1786.toNat
def k0_dev79 (d0 : Dev nD) : Nat :=
  let c0_i32_2369 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2368 : BitVec 32 := 1#32
  let v1828 : BitVec 32 := Scalar.muli v5 c1_i32_2368
  let v1829 : BitVec 32 := Scalar.addi c0_i32_2369 v1828
  v1829.toNat
def k0_dev80 (d0 : Dev nD) : Nat :=
  let c0_i32_2382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2381 : BitVec 32 := 1#32
  let v1832 : BitVec 32 := Scalar.muli v7 c1_i32_2381
  let v1833 : BitVec 32 := Scalar.addi c0_i32_2382 v1832
  v1833.toNat
def k0_dev81 (d0 : Dev nD) : Nat :=
  let c0_i32_2432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2431 : BitVec 32 := 1#32
  let v1875 : BitVec 32 := Scalar.muli v7 c1_i32_2431
  let v1876 : BitVec 32 := Scalar.addi c0_i32_2432 v1875
  v1876.toNat
def k0_dev82 (d0 : Dev nD) : Nat :=
  let c0_i32_2445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2444 : BitVec 32 := 1#32
  let v1879 : BitVec 32 := Scalar.muli v5 c1_i32_2444
  let v1880 : BitVec 32 := Scalar.addi c0_i32_2445 v1879
  v1880.toNat
def k0_dev83 (d0 : Dev nD) : Nat :=
  let c0_i32_2495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2494 : BitVec 32 := 1#32
  let v1922 : BitVec 32 := Scalar.muli v5 c1_i32_2494
  let v1923 : BitVec 32 := Scalar.addi c0_i32_2495 v1922
  v1923.toNat
def k0_dev84 (d0 : Dev nD) : Nat :=
  let c0_i32_2508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2507 : BitVec 32 := 1#32
  let v1926 : BitVec 32 := Scalar.muli v7 c1_i32_2507
  let v1927 : BitVec 32 := Scalar.addi c0_i32_2508 v1926
  v1927.toNat
def k0_dev85 (d0 : Dev nD) : Nat :=
  let c0_i32_2558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2557 : BitVec 32 := 1#32
  let v1969 : BitVec 32 := Scalar.muli v7 c1_i32_2557
  let v1970 : BitVec 32 := Scalar.addi c0_i32_2558 v1969
  v1970.toNat
def k0_dev86 (d0 : Dev nD) : Nat :=
  let c0_i32_2571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2570 : BitVec 32 := 1#32
  let v1973 : BitVec 32 := Scalar.muli v5 c1_i32_2570
  let v1974 : BitVec 32 := Scalar.addi c0_i32_2571 v1973
  v1974.toNat
def k0_dev87 (d0 : Dev nD) : Nat :=
  let c0_i32_2621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2620 : BitVec 32 := 1#32
  let v2016 : BitVec 32 := Scalar.muli v5 c1_i32_2620
  let v2017 : BitVec 32 := Scalar.addi c0_i32_2621 v2016
  v2017.toNat
def k0_dev88 (d0 : Dev nD) : Nat :=
  let c0_i32_2634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2633 : BitVec 32 := 1#32
  let v2020 : BitVec 32 := Scalar.muli v7 c1_i32_2633
  let v2021 : BitVec 32 := Scalar.addi c0_i32_2634 v2020
  v2021.toNat
def k0_dev89 (d0 : Dev nD) : Nat :=
  let c0_i32_2684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2683 : BitVec 32 := 1#32
  let v2063 : BitVec 32 := Scalar.muli v7 c1_i32_2683
  let v2064 : BitVec 32 := Scalar.addi c0_i32_2684 v2063
  v2064.toNat
def k0_dev90 (d0 : Dev nD) : Nat :=
  let c0_i32_2697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2696 : BitVec 32 := 1#32
  let v2067 : BitVec 32 := Scalar.muli v5 c1_i32_2696
  let v2068 : BitVec 32 := Scalar.addi c0_i32_2697 v2067
  v2068.toNat
def k0_dev91 (d0 : Dev nD) : Nat :=
  let c0_i32_2747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2746 : BitVec 32 := 1#32
  let v2110 : BitVec 32 := Scalar.muli v5 c1_i32_2746
  let v2111 : BitVec 32 := Scalar.addi c0_i32_2747 v2110
  v2111.toNat
def k0_dev92 (d0 : Dev nD) : Nat :=
  let c0_i32_2760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2759 : BitVec 32 := 1#32
  let v2114 : BitVec 32 := Scalar.muli v7 c1_i32_2759
  let v2115 : BitVec 32 := Scalar.addi c0_i32_2760 v2114
  v2115.toNat
def k0_dev93 (d0 : Dev nD) : Nat :=
  let c0_i32_2809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2808 : BitVec 32 := 1#32
  let v2157 : BitVec 32 := Scalar.muli v7 c1_i32_2808
  let v2158 : BitVec 32 := Scalar.addi c0_i32_2809 v2157
  v2158.toNat
def k0_dev94 (d0 : Dev nD) : Nat :=
  let c0_i32_2822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2821 : BitVec 32 := 1#32
  let v2161 : BitVec 32 := Scalar.muli v5 c1_i32_2821
  let v2162 : BitVec 32 := Scalar.addi c0_i32_2822 v2161
  v2162.toNat
def k0_dev95 (d0 : Dev nD) : Nat :=
  let c0_i32_2872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2871 : BitVec 32 := 1#32
  let v2204 : BitVec 32 := Scalar.muli v5 c1_i32_2871
  let v2205 : BitVec 32 := Scalar.addi c0_i32_2872 v2204
  v2205.toNat
def k0_dev96 (d0 : Dev nD) : Nat :=
  let c0_i32_2885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2884 : BitVec 32 := 1#32
  let v2208 : BitVec 32 := Scalar.muli v7 c1_i32_2884
  let v2209 : BitVec 32 := Scalar.addi c0_i32_2885 v2208
  v2209.toNat
def k0_dev97 (d0 : Dev nD) : Nat :=
  let c0_i32_2935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2934 : BitVec 32 := 1#32
  let v2251 : BitVec 32 := Scalar.muli v7 c1_i32_2934
  let v2252 : BitVec 32 := Scalar.addi c0_i32_2935 v2251
  v2252.toNat
def k0_dev98 (d0 : Dev nD) : Nat :=
  let c0_i32_2948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2947 : BitVec 32 := 1#32
  let v2255 : BitVec 32 := Scalar.muli v5 c1_i32_2947
  let v2256 : BitVec 32 := Scalar.addi c0_i32_2948 v2255
  v2256.toNat
def k0_dev99 (d0 : Dev nD) : Nat :=
  let c0_i32_2998 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2997 : BitVec 32 := 1#32
  let v2298 : BitVec 32 := Scalar.muli v5 c1_i32_2997
  let v2299 : BitVec 32 := Scalar.addi c0_i32_2998 v2298
  v2299.toNat
def k0_dev100 (d0 : Dev nD) : Nat :=
  let c0_i32_3011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3010 : BitVec 32 := 1#32
  let v2302 : BitVec 32 := Scalar.muli v7 c1_i32_3010
  let v2303 : BitVec 32 := Scalar.addi c0_i32_3011 v2302
  v2303.toNat
def k0_dev101 (d0 : Dev nD) : Nat :=
  let c0_i32_3061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3060 : BitVec 32 := 1#32
  let v2345 : BitVec 32 := Scalar.muli v7 c1_i32_3060
  let v2346 : BitVec 32 := Scalar.addi c0_i32_3061 v2345
  v2346.toNat
def k0_dev102 (d0 : Dev nD) : Nat :=
  let c0_i32_3074 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3073 : BitVec 32 := 1#32
  let v2349 : BitVec 32 := Scalar.muli v5 c1_i32_3073
  let v2350 : BitVec 32 := Scalar.addi c0_i32_3074 v2349
  v2350.toNat
def k0_dev103 (d0 : Dev nD) : Nat :=
  let c0_i32_3124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3123 : BitVec 32 := 1#32
  let v2392 : BitVec 32 := Scalar.muli v5 c1_i32_3123
  let v2393 : BitVec 32 := Scalar.addi c0_i32_3124 v2392
  v2393.toNat
def k0_dev104 (d0 : Dev nD) : Nat :=
  let c0_i32_3137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3136 : BitVec 32 := 1#32
  let v2396 : BitVec 32 := Scalar.muli v7 c1_i32_3136
  let v2397 : BitVec 32 := Scalar.addi c0_i32_3137 v2396
  v2397.toNat
def k0_dev105 (d0 : Dev nD) : Nat :=
  let c0_i32_3187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3186 : BitVec 32 := 1#32
  let v2439 : BitVec 32 := Scalar.muli v7 c1_i32_3186
  let v2440 : BitVec 32 := Scalar.addi c0_i32_3187 v2439
  v2440.toNat
def k0_dev106 (d0 : Dev nD) : Nat :=
  let c0_i32_3200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3199 : BitVec 32 := 1#32
  let v2443 : BitVec 32 := Scalar.muli v5 c1_i32_3199
  let v2444 : BitVec 32 := Scalar.addi c0_i32_3200 v2443
  v2444.toNat
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2726 : Index := Scalar.indexCast v2
  let c0_3533 : Index := 0#32
  let c0_3534 : Index := 0#32
  ![v2726.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3540 : BitVec 32 := 0#32
  let c0_i32_3541 : BitVec 32 := 0#32
  ![v2.toNat, 0, 0]
def k0_dev107 (d0 : Dev nD) : Nat :=
  let c0_i32_3539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3535 : BitVec 32 := 1#32
  let v2730 : BitVec 32 := Scalar.addi v2 c1_i32_3535
  let c8_i32_3536 : BitVec 32 := 8#32
  let v2731 : BitVec 32 := Scalar.remsi v2730 c8_i32_3536
  let c1_i32_3538 : BitVec 32 := 1#32
  let v2732 : BitVec 32 := Scalar.muli v2731 c1_i32_3538
  let v2733 : BitVec 32 := Scalar.addi c0_i32_3539 v2732
  v2733.toNat
def k0_dev108 (d0 : Dev nD) : Nat :=
  let c0_i32_3548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3544 : BitVec 32 := 2#32
  let v2740 : BitVec 32 := Scalar.addi v2 c2_i32_3544
  let c8_i32_3545 : BitVec 32 := 8#32
  let v2741 : BitVec 32 := Scalar.remsi v2740 c8_i32_3545
  let c1_i32_3547 : BitVec 32 := 1#32
  let v2742 : BitVec 32 := Scalar.muli v2741 c1_i32_3547
  let v2743 : BitVec 32 := Scalar.addi c0_i32_3548 v2742
  v2743.toNat
def k0_dev109 (d0 : Dev nD) : Nat :=
  let c0_i32_3557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3553 : BitVec 32 := 3#32
  let v2750 : BitVec 32 := Scalar.addi v2 c3_i32_3553
  let c8_i32_3554 : BitVec 32 := 8#32
  let v2751 : BitVec 32 := Scalar.remsi v2750 c8_i32_3554
  let c1_i32_3556 : BitVec 32 := 1#32
  let v2752 : BitVec 32 := Scalar.muli v2751 c1_i32_3556
  let v2753 : BitVec 32 := Scalar.addi c0_i32_3557 v2752
  v2753.toNat
def k0_dev110 (d0 : Dev nD) : Nat :=
  let c0_i32_3566 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3562 : BitVec 32 := 4#32
  let v2760 : BitVec 32 := Scalar.addi v2 c4_i32_3562
  let c8_i32_3563 : BitVec 32 := 8#32
  let v2761 : BitVec 32 := Scalar.remsi v2760 c8_i32_3563
  let c1_i32_3565 : BitVec 32 := 1#32
  let v2762 : BitVec 32 := Scalar.muli v2761 c1_i32_3565
  let v2763 : BitVec 32 := Scalar.addi c0_i32_3566 v2762
  v2763.toNat
def k0_dev111 (d0 : Dev nD) : Nat :=
  let c0_i32_3575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3571 : BitVec 32 := 5#32
  let v2770 : BitVec 32 := Scalar.addi v2 c5_i32_3571
  let c8_i32_3572 : BitVec 32 := 8#32
  let v2771 : BitVec 32 := Scalar.remsi v2770 c8_i32_3572
  let c1_i32_3574 : BitVec 32 := 1#32
  let v2772 : BitVec 32 := Scalar.muli v2771 c1_i32_3574
  let v2773 : BitVec 32 := Scalar.addi c0_i32_3575 v2772
  v2773.toNat
def k0_dev112 (d0 : Dev nD) : Nat :=
  let c0_i32_3584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3580 : BitVec 32 := 6#32
  let v2780 : BitVec 32 := Scalar.addi v2 c6_i32_3580
  let c8_i32_3581 : BitVec 32 := 8#32
  let v2781 : BitVec 32 := Scalar.remsi v2780 c8_i32_3581
  let c1_i32_3583 : BitVec 32 := 1#32
  let v2782 : BitVec 32 := Scalar.muli v2781 c1_i32_3583
  let v2783 : BitVec 32 := Scalar.addi c0_i32_3584 v2782
  v2783.toNat
def k0_dev113 (d0 : Dev nD) : Nat :=
  let c0_i32_3593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3589 : BitVec 32 := 7#32
  let v2790 : BitVec 32 := Scalar.addi v2 c7_i32_3589
  let c8_i32_3590 : BitVec 32 := 8#32
  let v2791 : BitVec 32 := Scalar.remsi v2790 c8_i32_3590
  let c1_i32_3592 : BitVec 32 := 1#32
  let v2792 : BitVec 32 := Scalar.muli v2791 c1_i32_3592
  let v2793 : BitVec 32 := Scalar.addi c0_i32_3593 v2792
  v2793.toNat
def k0_off4 (d0 : Dev nD) (c1_i32_3598 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2800 : BitVec 32 := Scalar.addi v2 c1_i32_3598
  let c8_i32_3599 : BitVec 32 := 8#32
  let v2801 : BitVec 32 := Scalar.remsi v2800 c8_i32_3599
  let c0_i32_3603 : BitVec 32 := 0#32
  let c0_i32_3604 : BitVec 32 := 0#32
  ![v2801.toNat, 0, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .local _ .vmem, ⟨0, _⟩ => ⟨S4096x4096, .bf16⟩
  | .local _ .vmem, ⟨1, _⟩ => ⟨S4096x8192, .bf16⟩
  | .local _ .vmem, ⟨2, _⟩ => ⟨S4096x8192, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Body.lean ====
/- The kernel body as a program over symbolic indices: eight streams, each with its eight
   chunks, written once per kind of step, and the proof that the printed body is exactly this
   program. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Tactic

@[expose] public section

noncomputable section

namespace Cert.KernelIdeal.Hand

open Idealize.ShloMosaic Idealize.SL.Sem Cert.KernelIdeal Cert.KernelIdeal.Gen

variable {F : FTy → Type} [FloatOps F]

/-! ## Places -/

/-- The three staging buffers and the two scratch buffers, whole. -/
abbrev xRef : Memref sig .tc .vmem S4096x512 .bf16 := Memref.whole cc0_stg0_0
abbrev wRef : Memref sig .tc .vmem S512x8192 .bf16 := Memref.whole cc0_stg1_0
abbrev oRef : Memref sig .tc .vmem S512x8192 .f32 := Memref.whole cc0_stg2_0
abbrev commRef : Memref sig .tc .vmem S8x2x512x1024 .bf16 := Memref.whole cc0_scratch0
abbrev maxRef : Memref sig .tc .vmem S8x8x128 .f32 := Memref.whole cc0_scratch1

/-- The stream of the `n`-th block of work: the streams take turns. -/
def sq (n : ℕ) : Fin 8 := ⟨n % 8, Nat.mod_lt _ (by decide)⟩

/-- The buffer of the pair that a step numbered `s` sends from. -/
def sb (s : ℕ) : Fin 2 := ⟨s % 2, Nat.mod_lt _ (by decide)⟩

/-- The other buffer of a pair. -/
def ob (b : Fin 2) : Fin 2 := sb (b.val + 1)

theorem cOff_inb (q : Fin 8) (b : Fin 2) :
    ∀ a, (![q.val, b.val, 0, 0] : Fin 4 → ℕ) a + S1x1x512x1024.size a ≤ S8x2x512x1024.size a := by
  revert q b; decide

/-- Slot `b` of stream `q` in the communication buffer, as a rectangle. -/
abbrev cRect (q : Fin 8) (b : Fin 2) : Rect S8x2x512x1024 :=
  Rect.unit (s := S8x2x512x1024) ![q.val, b.val, 0, 0] S1x1x512x1024.size (cOff_inb q b)

theorem cWords (q : Fin 8) (b : Fin 2) : (cRect q b).WholeWords (EltTy.packing .bf16) := by
  revert q b; decide

theorem cPacked (q : Fin 8) (b : Fin 2) : (cRect q b).PackedRows (EltTy.packing .bf16) := by
  revert q b; decide

/-- The same slot as a buffer of its own. -/
abbrev slotB (q : Fin 8) (b : Fin 2) : Memref sig .tc .vmem S512x1024 .bf16 :=
  (commRef.slice (cRect q b) (fun _ => rfl)).squeeze S512x1024 squeezes_S1x1x512x1024_S512x1024

theorem sOff_inb (q : Fin 8) (b : Fin 2) :
    ∀ a, (![q.val, b.val] : Fin 2 → ℕ) a + S1x1.size a ≤ S8x2.size a := by
  revert q b; decide

/-- The semaphore counting the bytes stream `q` has sent from its buffer `b`. -/
abbrev sendS (q : Fin 8) (b : Fin 2) : DmaSem sig :=
  ((cc0_scratch2.slice (Rect.unit (s := S8x2) ![q.val, b.val] S1x1.size (sOff_inb q b))).squeeze S_ squeezes_S1x1_S_).sem

/-- The semaphore counting the bytes that have arrived in stream `q`'s buffer `b`. -/
abbrev recvS (q : Fin 8) (b : Fin 2) : DmaSem sig :=
  ((cc0_scratch3.slice (Rect.unit (s := S8x2) ![q.val, b.val] S1x1.size (sOff_inb q b))).squeeze S_ squeezes_S1x1_S_).sem

theorem crOff_inb (q : Fin 8) : ∀ a, (![q.val] : Fin 1 → ℕ) a + S1.size a ≤ S8.size a := by
  revert q; decide

/-- The credit semaphore of stream `q`: the receiver allows one more arrival. -/
abbrev credS (q : Fin 8) : Sem sig :=
  ((cc0_scratch6.slice (Rect.unit (s := S8) ![q.val] S1.size (crOff_inb q))).squeeze S_ squeezes_S1_S_).sem

/-- The barrier semaphore. -/
abbrev barS : Sem sig := (SemArray.scalar (sig.barrier 0 rfl) : Sems sig S_).sem

/-! ## Devices -/

/-- The device one to the left, as the kernel computes it. -/
abbrev leftD (d : Dev nD) : Dev nD := ⟨k0_dev1 d, k0_dev1_lt d⟩
/-- The device one to the right, as the kernel computes it. -/
abbrev rightD (d : Dev nD) : Dev nD := ⟨k0_dev2 d, k0_dev2_lt d⟩

/-- Where stream `q` sends: even streams to the right, odd ones to the left. -/
def dn (q : Fin 8) (d : Dev nD) : Dev nD := if q.val % 2 = 0 then rightD d else leftD d
/-- Where stream `q` comes from. -/
def upD (q : Fin 8) (d : Dev nD) : Dev nD := if q.val % 2 = 0 then leftD d else rightD d

/-! ## Columns and rows -/

/-- The first column of stream `q`. -/
def col (q : Fin 8) : ℕ := 4096 * (q.val % 2) + 1024 * (q.val / 2)

theorem col_inb (q : Fin 8) : ∀ a, (![0, col q] : Fin 2 → ℕ) a + S512x1024.size a ≤ S512x8192.size a := by
  revert q; decide

/-- The columns of stream `q` in an array of all the columns. -/
abbrev qRect (q : Fin 8) : Rect S512x8192 :=
  Rect.unit (s := S512x8192) ![0, col q] S512x1024.size (col_inb q)

theorem tcol_inb (j : Fin 8) : ∀ a, (![0, 1024 * j.val] : Fin 2 → ℕ) a + S512x1024.size a ≤ S512x8192.size a := by
  revert j; decide

/-- Columns `1024 j` to `1024 (j + 1)`. -/
abbrev tRect (j : Fin 8) : Rect S512x8192 :=
  Rect.unit (s := S512x8192) ![0, 1024 * j.val] S512x1024.size (tcol_inb j)

/-- Which of the kernel's row offsets chunk `t` of stream `q` starts at. -/
def rix (q : Fin 8) (t : Fin 8) : Fin 10 :=
  if q.val % 2 = 0 then (if t.val = 0 then 0 else ⟨8 - t.val, by omega⟩) else ⟨2 + t.val, by omega⟩

/-- The rows of chunk `t` of stream `q` on device `d`. -/
abbrev xRect (d : Dev nD) (q : Fin 8) (t : Fin 8) : Rect S4096x512 :=
  Rect.unit (s := S4096x512) (k0_off1 d (BitVec.ofNat 32 (7 + (rix q t).val))) S512x512.size (k0_off1_inb d (rix q t))

/-! ## Values -/

/-- A chunk's product. -/
def mm (x : Vec F S512x512 .bf16) (w : Vec F S512x1024 .bf16) : FVec F S512x1024 .f32 :=
  matmul dot_S512x512_S512x1024_S512x1024_1_0_0_1_n_n none
    (shapeCast S512x512 x shapeCasts_S512x512_S512x512 : FVec F S512x512 .bf16)
    (shapeCast S512x1024 w shapeCasts_S512x1024_S512x1024 : FVec F S512x1024 .bf16)
    (constant S512x1024 .f32 0x00000000#32)

/-- What arrived, plus a chunk's product. -/
def accv (p : FVec F S512x1024 .f32) (r : Vec F S1x1x512x1024 .bf16) : FVec F S512x1024 .f32 :=
  addf (extf .f32 (shapeCast S512x1024 r shapeCasts_S1x1x512x1024_S512x1024 : FVec F S512x1024 .bf16) bitsLt_bf16_f32) p

/-- As it is sent on. -/
def pack (y : FVec F S512x1024 .f32) : FVec F S1x1x512x1024 .bf16 :=
  shapeCast S1x1x512x1024 (truncf .bf16 y bitsLt_bf16_f32 : FVec F S512x1024 .bf16) shapeCasts_S512x1024_S1x1x512x1024

/-- The running maximum with one stream's columns. -/
def maxv (m : F .f32) (y : FVec F S512x1024 .f32) : F .f32 :=
  Scalar.maximumf m (extractAt ![0, 0, 0] (shapeCast S1x1x1
    (multiReduction .maximumf [1, 2] S1 (shapeCast S1x512x1024 (absf y) shapeCasts_S512x1024_S1x512x1024 : FVec F S1x512x1024 .f32)
      0xFF800000#32 reduces_S1x512x1024_S1 (.inl rfl) rfl : FVec F S1 .f32) shapeCasts_S1_S1x1x1 : FVec F S1x1x1 .f32) inpos_S1x1x1_p0_0_0)

/-- The maximum as it is sent to the other devices. -/
def mpack (m : F .f32) : FVec F S1x8x128 .f32 :=
  shapeCast S1x8x128 (broadcast S8x128 m : FVec F S8x128 .f32) shapeCasts_S8x128_S1x8x128

/-- The maximum of all the devices' maxima. -/
def gmaxv (v : Vec F S8x8x128 .f32) : F .f32 :=
  extractAt ![0, 0, 0, 0] (shapeCast S1x1x1x1
    (multiReduction .maximumf [1, 2, 3] S1 (shapeCast S1x8x8x128 v shapeCasts_S8x8x128_S1x8x8x128 : FVec F S1x8x8x128 .f32)
      0xFF800000#32 reduces_S1x8x8x128_S1 (.inl rfl) rfl : FVec F S1 .f32) shapeCasts_S1_S1x1x1x1 : FVec F S1x1x1x1 .f32) inpos_S1x1x1x1_p0_0_0_0

/-- One stream's columns after quantising: multiplied up, clipped, rounded, multiplied down. -/
def quantv (up down : F .f32) (y : Vec F S512x1024 .f32) : FVec F S512x1024 .f32 :=
  mulf (extf .f32 (truncf .fp8e4m3
      (minimumf (broadcast S512x1024 (Scalar.ofBits .f32 0x43E00000#32))
        (maximumf (broadcast S512x1024 (Scalar.ofBits .f32 0xC3E00000#32))
          (mulf (shapeCast S512x1024 y shapeCasts_S512x1024_S512x1024 : FVec F S512x1024 .f32) (broadcast S512x1024 up)))) bitsLt_fp8e4m3_f32)
      bitsLt_fp8e4m3_f32)
    (broadcast S512x1024 down)

/-! ## The program -/

/-- The transfers' and accesses' well-formedness on the communication buffer. -/
theorem slot_words (q : Fin 8) (b : Fin 2) : (slotB q b).view.WordExact :=
  ((Memref.isWhole_whole _).wordExact_slice rfl _ (cWords q b)).reshape _ _

/-- Read chunk `t` of stream `q` and multiply it. -/
def prodP (d : Dev nD) (q : Fin 8) (t : Fin 8) : Prog (TpuEff nD τ sig (Elt F) Λ₀ .tc) (FVec F S512x1024 .f32) := do
  let x : Vec F S512x512 .bf16 ← Prog.lift (.load xRef (xRect d q t).toLoadRect (View.loadsAt_vmem h_S512x512))
  let w : Vec F S512x1024 .bf16 ← Prog.lift (.load wRef (qRect q).toLoadRect (View.loadsAt_vmem h_S512x1024))
  pure (mm x w)

/-- Write a value into a slot (the slot is read first and the value read is not used). -/
def putP (q : Fin 8) (b : Fin 2) (y : FVec F S512x1024 .f32) : Prog (TpuEff nD τ sig (Elt F) Λ₀ .tc) PUnit := do
  let _ : Vec F S1x1x512x1024 .bf16 ← Prog.lift (.load commRef (cRect q b).toLoadRect (View.loadsAt_vmem h_S1x1x512x1024))
  Prog.lift (.store commRef (cRect q b) (pack y) Finset.univ
    (View.stores_vmem h_S1x1x512x1024 ((Memref.isWhole_whole _).storeExact_slice rfl _ (cPacked q b)) (fun _ => rfl)) (.inl rfl))

/-- Send slot `b` of stream `q` to the next device's other slot. -/
def sendP (d : Dev nD) (q : Fin 8) (b : Fin 2) : Prog (TpuEff nD τ sig (Elt F) Λ₀ .tc) PUnit :=
  Prog.lift (.enqueueDma (slotB q b) (.remote (Dev.tc (dn q d)) (slotB q (ob b)) (.dma (sendS q b))) (.dma (recvS q (ob b)))
    (slot_words q b) (slot_words q (ob b)) ⟨⟨rfl, Or.inl rfl⟩, trivial⟩)

/-- Wait for what arrives in slot `ob b`. -/
def recvP (q : Fin 8) (b : Fin 2) : Prog (TpuEff nD τ sig (Elt F) Λ₀ .tc) PUnit :=
  Prog.lift (.waitDma2 (recvS q (ob b)) (slotB q b) (slotB q (ob b)) (slot_words q b) (slot_words q (ob b)))

/-- Wait until slot `b` has been read off by its own transfer. -/
def sentP (q : Fin 8) (b : Fin 2) : Prog (TpuEff nD τ sig (Elt F) Λ₀ .tc) PUnit :=
  Prog.lift (.waitDma2 (sendS q b) (slotB q (ob b)) (slotB q b) (slot_words q (ob b)) (slot_words q b))

/-- The first send of a stream. -/
def firstP (d : Dev nD) (q : Fin 8) : Prog (TpuEff nD τ sig (Elt F) Λ₀ .tc) PUnit := do
  let p ← prodP d q 0
  putP q 0 p
  sendP d q 0

/-- The number of the chunk multiplied after `s` arrivals. -/
def chunk (s : ℕ) : Fin 8 := ⟨(s + 1) % 8, Nat.mod_lt _ (by decide)⟩

/-- One relay: multiply, receive, add, and hand on after the handshake. -/
def relayP (d : Dev nD) (q : Fin 8) (s : ℕ) : Prog (TpuEff nD τ sig (Elt F) Λ₀ .tc) PUnit := do
  let p ← prodP d q (chunk s)
  recvP q (sb s)
  let r : Vec F S1x1x512x1024 .bf16 ← Prog.lift (.load commRef (cRect q (ob (sb s))).toLoadRect (View.loadsAt_vmem h_S1x1x512x1024))
  putP q (ob (sb s)) (accv p r)
  sentP q (sb s)
  semSignalWord (upD q d) (credS q) 1#32
  semWaitWord (credS q) 1#32
  sendP d q (ob (sb s))

/-- The last arrival of a stream: the finished columns go to the result. -/
def lastP (d : Dev nD) (q : Fin 8) (m : F .f32) : Prog (TpuEff nD τ sig (Elt F) Λ₀ .tc) (F .f32) := do
  let p ← prodP d q 7
  recvP q 0
  let r : Vec F S1x1x512x1024 .bf16 ← Prog.lift (.load commRef (cRect q 1).toLoadRect (View.loadsAt_vmem h_S1x1x512x1024))
  let _ : Vec F S512x1024 .f32 ← Prog.lift (.load oRef (qRect q).toLoadRect (View.loadsAt_vmem h_S512x1024))
  Prog.lift (.store oRef (qRect q) (accv p r) Finset.univ
    (View.stores_vmem_bits_univ h_S512x1024 rfl) (.inl rfl))
  pure (maxv m (accv p r))

/-! ## The maximum's exchange -/

/-- The device `j + 1` places to the right, as the kernel computes it. -/
def farN (d : Dev nD) (j : Fin 7) : ℕ :=
  (Scalar.addi 0#32 (Scalar.muli (Scalar.remsi (Scalar.addi (Scalar.remsi (Scalar.divsi (Dev.word d) 1#32) 8#32)
    (BitVec.ofNat 32 (1 + j.val))) 8#32) 1#32)).toNat

theorem farN_eq : ∀ (d : Dev nD) (j : Fin 7), farN d j = (d.val + j.val + 1) % 8 := by decide +kernel

theorem farN_lt (d : Dev nD) (j : Fin 7) : farN d j < nD := by
  rw [farN_eq]; exact Nat.mod_lt _ (by decide)

abbrev farD (d : Dev nD) (j : Fin 7) : Dev nD := ⟨farN d j, farN_lt d j⟩

/-- A device's own slot of the maxima. -/
abbrev ownSlot (d : Dev nD) : Memref sig .tc .vmem S8x128 .f32 :=
  (maxRef.slice (Rect.unit (s := S8x8x128) (k0_off3 d) S1x8x128.size (k0_off3_inb d)) (fun _ => rfl)).squeeze S8x128 squeezes_S1x8x128_S8x128

/-- The slot of the device `j + 1` places to the right. -/
abbrev farSlot (d : Dev nD) (j : Fin 7) : Memref sig .tc .vmem S8x128 .f32 :=
  (maxRef.slice (Rect.unit (s := S8x8x128) (k0_off4 d (BitVec.ofNat 32 (1 + j.val))) S1x8x128.size (k0_off4_inb d j)) (fun _ => rfl)).squeeze
    S8x128 squeezes_S1x8x128_S8x128

theorem mOff_inb (j : Fin 7) : ∀ a, (![j.val] : Fin 1 → ℕ) a + S1.size a ≤ S7.size a := by
  revert j; decide

/-- The semaphore of the maximum's transfer number `j`. -/
abbrev msendS (j : Fin 7) : DmaSem sig :=
  ((cc0_scratch4.slice (Rect.unit (s := S7) ![j.val] S1.size (mOff_inb j))).squeeze S_ squeezes_S1_S_).sem

/-- The semaphore counting all the maxima that arrive. -/
abbrev mrecvS : DmaSem sig := cc0_scratch5.sem

theorem own_words (d : Dev nD) : (ownSlot d).view.WordExact := (View.wordExact_bits rfl).reshape _ _
theorem far_words (d : Dev nD) (j : Fin 7) : (farSlot d j).view.WordExact := (View.wordExact_bits rfl).reshape _ _

/-- The rectangle of a device's own slot. -/
abbrev ownRect (d : Dev nD) : Rect S8x8x128 := Rect.unit (s := S8x8x128) (k0_off2 d) S1x8x128.size (k0_off2_inb d)

/-- Write the device's maximum into its own slot. -/
def mputP (d : Dev nD) (m : F .f32) : Prog (TpuEff nD τ sig (Elt F) Λ₀ .tc) PUnit := do
  let _ : Vec F S1x8x128 .f32 ← Prog.lift (.load maxRef (ownRect d).toLoadRect (View.loadsAt_vmem h_S1x8x128))
  Prog.lift (.store maxRef (ownRect d) (mpack m) Finset.univ (View.stores_vmem_bits_univ h_S1x8x128 rfl) (.inl rfl))

/-- Send it to the device `j + 1` places to the right. -/
def msendP (d : Dev nD) (j : Fin 7) : Prog (TpuEff nD τ sig (Elt F) Λ₀ .tc) PUnit :=
  Prog.lift (.enqueueDma (ownSlot d) (.remote (Dev.tc (farD d j)) (ownSlot d) (.dma (msendS j))) (.dma mrecvS)
    (own_words d) (own_words d) ⟨⟨rfl, Or.inl rfl⟩, trivial⟩)

/-- Wait for one maximum to arrive. -/
def mrecvP (d : Dev nD) (j : Fin 7) : Prog (TpuEff nD τ sig (Elt F) Λ₀ .tc) PUnit :=
  Prog.lift (.waitDma2 mrecvS (farSlot d j) (farSlot d j) (far_words d j) (far_words d j))

/-- Wait for one of the maximum's transfers to have read its source. -/
def msentP (d : Dev nD) (j : Fin 7) : Prog (TpuEff nD τ sig (Elt F) Λ₀ .tc) PUnit :=
  Prog.lift (.waitDma2 (msendS j) (ownSlot d) (ownSlot d) (own_words d) (own_words d))

/-- Quantise one stream's columns in place. -/
def quantP (up down : F .f32) (j : Fin 8) : Prog (TpuEff nD τ sig (Elt F) Λ₀ .tc) PUnit := do
  let y : Vec F S512x1024 .f32 ← Prog.lift (.load oRef (tRect j).toLoadRect (View.loadsAt_vmem h_S512x1024))
  let _ : Vec F S512x1024 .f32 ← Prog.lift (.load oRef (tRect j).toLoadRect (View.loadsAt_vmem h_S512x1024))
  Prog.lift (.store oRef (tRect j) (quantv up down y) Finset.univ (View.stores_vmem_bits_univ h_S512x1024 rfl) (.inl rfl))

/-! ## The whole body -/

/-- `P 0`, then `P 1`, and so on up to `k` of them. -/
def rep (P : ℕ → Prog (TpuEff nD τ sig (Elt F) Λ₀ .tc) PUnit) : ℕ → ℕ → Prog (TpuEff nD τ sig (Elt F) Λ₀ .tc) PUnit
  | 0, _ => pure ⟨⟩
  | k + 1, n => do P n; rep P k (n + 1)

/-- The same with a value carried along. -/
def repm (P : ℕ → F .f32 → Prog (TpuEff nD τ sig (Elt F) Λ₀ .tc) (F .f32)) :
    ℕ → ℕ → F .f32 → Prog (TpuEff nD τ sig (Elt F) Λ₀ .tc) (F .f32)
  | 0, _, m => pure m
  | k + 1, n, m => do let m' ← P n m; repm P k (n + 1) m'

/-- A number below seven. -/
def s7 (n : ℕ) : Fin 7 := ⟨n % 7, Nat.mod_lt _ (by decide)⟩

/-- The exchange of the maxima and the quantisation. -/
def tailP (d : Dev nD) (m : F .f32) : Prog (TpuEff nD τ sig (Elt F) Λ₀ .tc) PUnit := do
  mputP d m
  rep (fun j => msendP d (s7 j)) 7 0
  rep (fun j => mrecvP d (s7 j)) 7 0
  rep (fun j => msentP d (s7 j)) 7 0
  let v : Vec F S8x8x128 .f32 ← Prog.lift (.load maxRef (Rect.unit (s := S8x8x128) ![0, 0, 0] S8x8x128.size inb_S8x8x128_S8x8x128_0_0_0).toLoadRect (View.loadsAt_vmem h_S8x8x128))
  rep (fun j => quantP (Scalar.divf (Scalar.ofBits .f32 0x43E00000#32) (gmaxv v)) (Scalar.divf (gmaxv v) (Scalar.ofBits .f32 0x43E00000#32)) (sq j)) 8 0

/-- The body. -/
def bodyP : Prog (TpuEff nD τ sig (Elt F) Λ₀ .tc) PUnit := do
  let d : Dev nD ← Prog.lift .deviceId
  semSignalWord (leftD d) barS 1#32
  semSignalWord (rightD d) barS 1#32
  semWaitWord barS 2#32
  rep (fun n => firstP d (sq n)) 8 0
  rep (fun n => relayP d (sq n) (n / 8)) 48 0
  let m ← repm (fun n m => lastP d (sq n) m) 8 0 (Scalar.ofBits .f32 0x00000000#32)
  rep (fun n => sentP (sq n) 0) 8 0
  tailP d m

/-- The printed body is this program. -/
theorem body_eq (t : Fin cfg0.N) : bodyAt0 (F := F) t = bodyP := by
  sl_kernel_rfl

end Cert.KernelIdeal.Hand

end
-- ==== Proof.Protocol.lean ====
/- The protocol of the exchange: the semaphore cells of a device, what every round of every
   cell hands over, and the values that travel. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources: the pipeline's copy of the rounds library and this protocol's own. -/
abbrev UB : Type := URounds (GSem nD τ sig) ℕ
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring -/

theorem left_right (d : Dev nD) : leftD (rightD d) = d := by revert d; decide +kernel
theorem right_left (d : Dev nD) : rightD (leftD d) = d := by revert d; decide +kernel

theorem up_dn (q : Fin 8) (d : Dev nD) : upD q (dn q d) = d := by
  unfold upD dn; split
  · exact left_right d
  · exact right_left d

theorem dn_up (q : Fin 8) (d : Dev nD) : dn q (upD q d) = d := by
  unfold upD dn; split
  · exact right_left d
  · exact left_right d

/-- The device `j + 1` places to the left: the one whose transfer number `j` comes here. -/
def backD (d : Dev nD) (j : Fin 7) : Dev nD := ⟨(d.val + 7 - j.val) % 8, Nat.mod_lt _ (by decide)⟩

theorem back_far (d : Dev nD) (j : Fin 7) : backD (farD d j) j = d := by revert d j; decide +kernel
theorem far_back (d : Dev nD) (j : Fin 7) : farD (backD d j) j = d := by revert d j; decide +kernel

theorem ob_ob (b : Fin 2) : ob (ob b) = b := by revert b; decide
theorem ob_val (b : Fin 2) : (ob b).val = 1 - b.val := by revert b; decide
theorem ob_ne (b : Fin 2) : ob b ≠ b := by revert b; decide
theorem sb_val (s : ℕ) : (sb s).val = s % 2 := rfl
theorem sb_succ (s : ℕ) : sb (s + 1) = ob (sb s) := by
  apply Fin.ext; rw [ob_val]; simp only [sb_val]; omega

/-! ## The cells -/

/-- A device's scoped semaphores besides the pipeline's: for each stream and buffer a send and a receive cell, a
    credit cell for each stream, the maxima's seven send cells and one receive cell. -/
abbrev Ok : Type := (Fin 8 × Fin 2) ⊕ (Fin 8 × Fin 2) ⊕ Fin 8 ⊕ Fin 7 ⊕ Unit
/-- With the barrier cell. -/
abbrev Ck : Type := Unit ⊕ Ok

abbrev kBar : Ck := .inl ()
abbrev kSnd (q : Fin 8) (b : Fin 2) : Ck := .inr (.inl (q, b))
abbrev kRcv (q : Fin 8) (b : Fin 2) : Ck := .inr (.inr (.inl (q, b)))
abbrev kCrd (q : Fin 8) : Ck := .inr (.inr (.inr (.inl q)))
abbrev kMsn (j : Fin 7) : Ck := .inr (.inr (.inr (.inr (.inl j))))
abbrev kMrc : Ck := .inr (.inr (.inr (.inr (.inr ()))))

def osem : Ok → SemLoc sig
  | .inl (q, b) => .dma (sendS q b)
  | .inr (.inl (q, b)) => .dma (recvS q b)
  | .inr (.inr (.inl q)) => .reg (credS q)
  | .inr (.inr (.inr (.inl j))) => .dma (msendS j)
  | .inr (.inr (.inr (.inr ()))) => .dma mrecvS

def csem : Ck → SemLoc sig
  | .inl () => .reg barS
  | .inr o => osem o

abbrev cell (c : Dev nD) (k : Ck) : GSem nD τ sig := ((c : Thread nD τ), csem k)

/-- The cells' numbers, pool by pool. -/
def cnum : SemLoc sig → ℕ
  | .dma s => s.val
  | .reg s => 1000 + s.val

theorem csem_inj : Function.Injective csem := by
  have h : ∀ k : Ck, cnum (csem k) = match k with
      | .inl () => 1008
      | .inr (.inl (q, b)) => 3 + 2 * q.val + b.val
      | .inr (.inr (.inl (q, b))) => 19 + 2 * q.val + b.val
      | .inr (.inr (.inr (.inl q))) => 1000 + q.val
      | .inr (.inr (.inr (.inr (.inl j)))) => 35 + j.val
      | .inr (.inr (.inr (.inr (.inr ())))) => 42 := by decide +kernel
  intro k k' e
  have e' := congrArg cnum e
  rw [h, h] at e'
  rcases k with ⟨⟩ | ⟨q, b⟩ | ⟨q, b⟩ | q | j | ⟨⟩ <;> rcases k' with ⟨⟩ | ⟨q', b'⟩ | ⟨q', b'⟩ | q' | j' | ⟨⟩ <;>
    simp only [Sum.inl.injEq, Sum.inr.injEq, Prod.mk.injEq, Fin.ext_iff, reduceCtorEq] at e' ⊢ <;> omega

/-! ## What travels -/

section Values

variable (X : Dev nD → Vec F S4096x512 .bf16) (Wt : Dev nD → Vec F S512x8192 .bf16)

/-- The product of chunk `t` of stream `q` on device `c`. -/
def term (c : Dev nD) (q t : Fin 8) : FVec F S512x1024 .f32 :=
  mm (xRef.view.readAt (Elt F) (xRect c q t).toLoadRect (X c)) (wRef.view.readAt (Elt F) (qRect q).toLoadRect (Wt c))

/-- What arrived, plus a product. -/
def plus (p : FVec F S512x1024 .f32) (v : FVec F S512x1024 .bf16) : FVec F S512x1024 .f32 :=
  addf (extf .f32 v bitsLt_bf16_f32) p

/-- What device `c` sends on stream `q` as its send number `s`. -/
def sent (c : Dev nD) (q : Fin 8) : ℕ → FVec F S512x1024 .bf16
  | 0 => truncf .bf16 (term X Wt c q 0) bitsLt_bf16_f32
  | s + 1 => truncf .bf16 (plus (term X Wt c q (chunk s)) (sent (upD q c) q s)) bitsLt_bf16_f32

/-- The finished columns of stream `q` on device `c`. -/
def done (c : Dev nD) (q : Fin 8) : FVec F S512x1024 .f32 := plus (term X Wt c q 7) (sent X Wt (upD q c) q 6)

/-- The running maximum of device `c` after `n` streams. -/
def peak (c : Dev nD) : ℕ → F .f32
  | 0 => Scalar.ofBits .f32 0x00000000#32
  | n + 1 => maxv (peak c n) (done X Wt c (sq n))

/-- What device `c` tells the others. -/
def told (c : Dev nD) : Vec F S8x128 .f32 := broadcast S8x128 (peak X Wt c 8)

/-! ## The schedule -/

/-- The bytes of one transfer of a slot, and of one of a maximum, as the semaphores count them. -/
abbrev NB : ℕ := (slotB 0 0).view.dmaCredit
abbrev NM : ℕ := (ownSlot (0 : Dev nD)).view.dmaCredit

theorem NB_pos : 0 < NB := View.dmaCredit_pos _ (by decide)
theorem NM_pos : 0 < NM := View.dmaCredit_pos _ (by decide)

/-- Device `c` owns slot `b` of stream `q` at contents `v`; at some contents. -/
def slotIs (c : Dev nD) (q : Fin 8) (b : Fin 2) (v : FVec F S512x1024 .bf16) : sProp 𝕄 :=
  owns (c : Thread nD τ) (slotB q b) fullShare v
def slotAny (c : Dev nD) (q : Fin 8) (b : Fin 2) : sProp 𝕄 := iprop(∃ v, slotIs (F := F) c q b v)

/-- A share of slot `o` of device `c`'s maxima, at contents `v`. -/
def maxIs (c o : Dev nD) (p : PosShare TreeShare) (v : Vec F S8x128 .f32) : sProp 𝕄 :=
  owns (c : Thread nD τ) (ownSlot o) p v
def maxAny (c o : Dev nD) : sProp 𝕄 := iprop(∃ v, maxIs (F := F) c o fullShare v)

instance slotIs_storable (c : Dev nD) (q : Fin 8) (b : Fin 2) (v : FVec F S512x1024 .bf16) :
    BI.Storable (upEmb : UEmb _ 𝕄) (slotIs (F := F) c q b v) := by unfold slotIs; infer_instance
instance slotAny_storable (c : Dev nD) (q : Fin 8) (b : Fin 2) :
    BI.Storable (upEmb : UEmb _ 𝕄) (slotAny (F := F) c q b) := by unfold slotAny; infer_instance
instance maxIs_storable (c o : Dev nD) (p : PosShare TreeShare) (v : Vec F S8x128 .f32) :
    BI.Storable (upEmb : UEmb _ 𝕄) (maxIs (F := F) c o p v) := by unfold maxIs; infer_instance
instance maxAny_storable (c o : Dev nD) : BI.Storable (upEmb : UEmb _ 𝕄) (maxAny (F := F) c o) := by
  unfold maxAny; infer_instance

/-- The maxima's slots that device `c` receives for the `k` devices from itself leftwards, each slot on the device
    as far to the right of its writer as `7 - k` hops and one more. -/
def pass : ℕ → Dev nD → sProp 𝕄
  | 0, _ => iprop(emp)
  | k + 1, c => iprop(maxAny (F := F) (farD c (s7 (6 - k))) c ∗ pass k (leftD c))

instance pass_storable (k : ℕ) (c : Dev nD) : BI.Storable (upEmb : UEmb _ 𝕄) (pass (F := F) k c) := by
  induction k generalizing c with
  | zero => unfold pass; infer_instance
  | succ k ih => unfold pass; have := ih (leftD c); infer_instance

/-- The shares of its own maximum's slot that a device lends to its seven transfers, and what it keeps after `j`. -/
def kept : ℕ → PosShare TreeShare
  | 0 => fullShare
  | j + 1 => (kept j).right
def lent (j : ℕ) : PosShare TreeShare := (kept j).left

/-- An arrival on stream `q`, number `s`: the slot with what the device upstream sent, and that device's word that it
    is ready for this device's credit number `s`. -/
def arrPay (c : Dev nD) (q : Fin 8) (s : ℕ) : sProp 𝕄 :=
  iprop(slotIs c q (ob (sb s)) (sent X Wt (upD q c) q s) ∗ reached ER (cell (upD q c) (kCrd q)) s)

/-- The slots and the maxima that come with credit number `s` of stream `q`. -/
def crdPay (c : Dev nD) (q : Fin 8) (s : ℕ) : sProp 𝕄 :=
  iprop((slotAny (F := F) (dn q c) q (sb s) ∗ reached ER (cell (dn q c) (kRcv q (sb s))) ((s + 1) / 2))
    ∗ (if q.val = 0 then pass (F := F) (6 - s) c else iprop(emp)))

/-- What comes with the barrier from one side, stream by stream: side 0 is the right, side 1 the left. -/
def barSlot (c : Dev nD) (d : ℕ) (q : Fin 8) : sProp 𝕄 :=
  if q.val % 2 = d then iprop(slotAny (F := F) (dn q c) q 1 ∗ reached ER (cell (dn q c) (kRcv q 1)) 0) else iprop(emp)
def barPay (c : Dev nD) (d : ℕ) : sProp 𝕄 :=
  iprop((bigSep Finset.univ fun q : Fin 8 => barSlot (F := F) c d q) ∗ (if d = 0 then pass (F := F) 7 c else iprop(emp)))

instance arrPay_storable (c : Dev nD) (q : Fin 8) (s : ℕ) : BI.Storable (upEmb : UEmb _ 𝕄) (arrPay X Wt c q s) := by
  unfold arrPay; infer_instance
instance crdPay_storable (c : Dev nD) (q : Fin 8) (s : ℕ) : BI.Storable (upEmb : UEmb _ 𝕄) (crdPay (F := F) c q s) := by
  unfold crdPay; split <;> infer_instance
instance barSlot_storable (c : Dev nD) (d : ℕ) (q : Fin 8) : BI.Storable (upEmb : UEmb _ 𝕄) (barSlot (F := F) c d q) := by
  unfold barSlot; split <;> infer_instance
instance barPay_storable (c : Dev nD) (d : ℕ) : BI.Storable (upEmb : UEmb _ 𝕄) (barPay (F := F) c d) := by
  unfold barPay; split <;> infer_instance

/-- Which of a device's cells a semaphore is. -/
def kind (sm : SemLoc sig) : Option Ck := Function.partialInv csem sm

theorem kind_csem (k : Ck) : kind (csem k) = some k := Function.partialInv_left csem_inj k

/-- The duties of a round, by the cell. -/
def dutiesOf : Ck → ℕ → Finset ℕ
  | .inl (), r => if r = 0 then {0, 1} else ∅
  | .inr (.inl (_, b)), r => if 2 * r + b.val < 7 then {0} else ∅
  | .inr (.inr (.inl (_, b))), r => if 2 * r + (ob b).val < 7 then {0} else ∅
  | .inr (.inr (.inr (.inl _))), r => if r < 6 then {0} else ∅
  | .inr (.inr (.inr (.inr (.inl _)))), r => if r = 0 then {0} else ∅
  | .inr (.inr (.inr (.inr (.inr ())))), r => if r = 0 then Finset.range 7 else ∅

/-- The units of a duty. -/
def amountOf : Ck → ℕ
  | .inl () => 1
  | .inr (.inl _) => NB
  | .inr (.inr (.inl _)) => NB
  | .inr (.inr (.inr (.inl _))) => 1
  | .inr (.inr (.inr (.inr (.inl _)))) => NM
  | .inr (.inr (.inr (.inr (.inr ())))) => NM

/-- What a duty hands over. -/
def payloadOf (c : Dev nD) : Ck → ℕ → ℕ → sProp 𝕄
  | .inl (), _, d => barPay (F := F) c d
  | .inr (.inl (q, b)), _, _ => slotAny (F := F) c q b
  | .inr (.inr (.inl (q, b))), r, _ => arrPay X Wt c q (2 * r + (ob b).val)
  | .inr (.inr (.inr (.inl q))), r, _ => crdPay (F := F) c q r
  | .inr (.inr (.inr (.inr (.inl j)))), _, _ => maxIs c c (lent j.val) (told X Wt c)
  | .inr (.inr (.inr (.inr (.inr ())))), _, d => maxIs c (backD c (s7 d)) fullShare (told X Wt (backD c (s7 d)))

instance payloadOf_storable (c : Dev nD) (k : Ck) (r d : ℕ) : BI.Storable (upEmb : UEmb _ 𝕄) (payloadOf X Wt c k r d) := by
  rcases k with ⟨⟩ | ⟨q, b⟩ | ⟨q, b⟩ | q | j | ⟨⟩ <;> unfold payloadOf <;> infer_instance

/-- The rounds of every cell of the machine. -/
def Rd : Rounds.Schedule (GSem nD τ sig) ℕ 𝕄 where
  duties g r := if g.1.2 = .tc then (kind g.2).elim ∅ (fun k => dutiesOf k r) else ∅
  unitless _ := False
  amount g _ _ := (kind g.2).elim 1 amountOf
  payload g r d := (kind g.2).elim iprop(emp) (fun k => payloadOf X Wt g.1.1 k r d)
  amount_pos g r d _ := by
    cases kind g.2 with
    | none => exact Nat.one_pos
    | some k => rcases k with ⟨⟩ | ⟨q, b⟩ | ⟨q, b⟩ | q | j | ⟨⟩ <;> first | exact Nat.one_pos | exact NB_pos | exact NM_pos

instance Rd_payload_storable (g : GSem nD τ sig) (r : ℕ) (d : ℕ) :
    BI.Storable (upEmb : UEmb _ 𝕄) ((Rd X Wt).payload g r d) := by
  show BI.Storable upEmb ((kind g.2).elim iprop(emp) (fun k => payloadOf X Wt g.1.1 k r d))
  cases kind g.2 with
  | none => exact (inferInstance : BI.Storable upEmb (iprop(emp) : sProp 𝕄))
  | some k => exact payloadOf_storable X Wt g.1.1 k r d

theorem duties_cell (c : Dev nD) (k : Ck) (r : ℕ) : (Rd X Wt).duties (cell c k) r = dutiesOf k r := by
  show (if (cell c k).1.2 = .tc then (kind (csem k)).elim ∅ (fun k => dutiesOf k r) else ∅) = _
  rw [if_pos rfl, kind_csem]; rfl

theorem amount_cell (c : Dev nD) (k : Ck) (r d : ℕ) : (Rd X Wt).amount (cell c k) r d = amountOf k := by
  show (kind (csem k)).elim 1 amountOf = _
  rw [kind_csem]; rfl

theorem payload_cell (c : Dev nD) (k : Ck) (r d : ℕ) : (Rd X Wt).payload (cell c k) r d = payloadOf X Wt c k r d := by
  show (kind (csem k)).elim iprop(emp) (fun k => payloadOf X Wt c k r d) = _
  rw [kind_csem]; rfl

theorem expect_cell (c : Dev nD) (k : Ck) (r : ℕ) : (Rd X Wt).expect (cell c k) r = (dutiesOf k r).card * amountOf k := by
  unfold Schedule.expect Schedule.amountOf
  rw [duties_cell, Finset.sum_congr rfl fun d _ => amount_cell X Wt c k r d, Finset.sum_const, smul_eq_mul]

/-- The rest of a round with one duty. -/
theorem rest_one (c : Dev nD) (k : Ck) (r : ℕ) (h : dutiesOf k r = {0}) :
    bigSep ((Rd X Wt).duties (cell c k) r \ ∅) (fun d => (Rd X Wt).payload (cell c k) r d) = payloadOf X Wt c k r 0 := by
  rw [Finset.sdiff_empty, duties_cell, h, bigSep_singleton, payload_cell]

end Values

/-! ## Levels -/

/-- The times at which things are waited for: the barrier; arrival number `n` of all the streams'; credit number `n`; the
    maxima. -/
def tB : ℕ := 1
def tR (n : ℕ) : ℕ := 2 + 2 * n
def tC (n : ℕ) : ℕ := 3 + 2 * n
def tM : ℕ := 200

def lab (g : GSem nD τ sig) : Finset ℕ := if g.1.2 = .tc then Finset.range 256 else ∅
def lv (_ : GSem nD τ sig) (i : ℕ) : ℕ := i

/-- Everything owed is to a TensorCore and due later than time `t`. -/
def Later (t : ℕ) (O : CellTallies nD τ sig ℕ) : Prop := ∀ g i, 0 < O g i → g.1.2 = .tc ∧ t < i ∧ i < 256

theorem Later.zero (t : ℕ) : Later t 0 := fun g i h => absurd h (Nat.lt_irrefl 0)

theorem Later.add {t : ℕ} {O O' : CellTallies nD τ sig ℕ} (h : Later t O) (h' : Later t O') : Later t (O + O') := by
  intro g i hp
  rw [Pi.add_apply, Finsupp.add_apply] at hp
  rcases Nat.eq_zero_or_pos (O g i) with h0 | h0
  · rw [h0, Nat.zero_add] at hp; exact h' g i hp
  · exact h g i h0

theorem Later.mono {t t' : ℕ} {O : CellTallies nD τ sig ℕ} (h : Later t O) (hl : t' ≤ t) : Later t' O :=
  fun g i hp => ⟨(h g i hp).1, lt_of_le_of_lt hl (h g i hp).2.1, (h g i hp).2.2⟩

theorem Later.one {t : ℕ} (c : Dev nD) (k : Ck) (i n : ℕ) (h : t < i) (h' : i < 256) : Later t (tallyAt (cell c k) i n) := by
  intro g j hp
  rw [tallyAt_apply] at hp
  by_cases e : g = cell c k ∧ j = i
  · rw [e.1, e.2]; exact ⟨rfl, h, h'⟩
  · rw [if_neg e] at hp; exact absurd hp (Nat.lt_irrefl 0)

theorem mayWait (c : Dev nD) (sm : SemLoc sig) (t : ℕ) (ht : t < 256) (O : CellTallies nD τ sig ℕ) (h : Later t O) :
    (levAts lab lv : sProp 𝕄) ⊢ MayWait (c : Thread nD τ) sm t O :=
  MayOwe.of_cut (L := lab) (lev := lv) t
    (fun p hp => by rw [Finset.mem_singleton.mp hp]; unfold lab; rw [if_pos rfl]; exact Finset.mem_range.mpr ht)
    (fun g i hg => by unfold lab; rw [if_pos (h g i hg).1]; exact Finset.mem_range.mpr (h g i hg).2.2)
    (fun p hp => by rw [Finset.mem_singleton.mp hp]; exact le_rfl)
    (fun g i hg => (h g i hg).2.1)

end Cert.KernelIdeal.Hand

end
-- ==== Proof.Views.lean ====
/- Reading, writing and multiplying: what each of the body's local steps does to the slots,
   stated for the assertions of the protocol. -/
module

public import proofs.«01_k».proof.Proof.Protocol

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The program `p` on device `c` ends with `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_bind (c : Dev nD) {α β : Type} (p : Prog (TpuEff nD τ sig (Elt F) Λ₀ .tc) α)
    (k : α → Prog (TpuEff nD τ sig (Elt F) Λ₀ .tc) β) (Q : β → sProp 𝕄) :
    WP c (p >>= k) Q = WP c p fun a => WP c (k a) Q := Sem.wp_bind _ _ _ _ _ _

theorem WP_pure (c : Dev nD) {α : Type} (a : α) (Q : α → sProp 𝕄) : Q a ⊢ WP c (pure a) Q := Sem.le_wp_ret _ _ _ a Q

/-- One part of a program and then the rest. -/
theorem seq {c : Dev nD} {α β : Type} {p : Prog (TpuEff nD τ sig (Elt F) Λ₀ .tc) α} {P : sProp 𝕄} {R : α → sProp 𝕄}
    (h : P ⊢ WP c p R) {k : α → Prog (TpuEff nD τ sig (Elt F) Λ₀ .tc) β} {Q : β → sProp 𝕄} :
    P ⊢ iprop((∀ a, R a -∗ WP c (k a) Q) -∗ WP c (p >>= k) Q) := by
  rw [WP_bind]; exact h.trans (wp_wand _ _ _)

/-- The last part of a program. -/
theorem fin {c : Dev nD} {α : Type} {p : Prog (TpuEff nD τ sig (Elt F) Λ₀ .tc) α} {P : sProp 𝕄} {R : α → sProp 𝕄}
    (h : P ⊢ WP c p R) {Q : α → sProp 𝕄} : P ⊢ iprop((∀ a, R a -∗ Q a) -∗ WP c p Q) :=
  h.trans (wp_wand _ _ _)

/-! ## Repeated steps -/

/-- A loop with an invariant. -/
theorem rep_wp (c : Dev nD) (P : ℕ → Prog (TpuEff nD τ sig (Elt F) Λ₀ .tc) PUnit) (I : ℕ → sProp 𝕄) (k n : ℕ)
    (h : ∀ i, n ≤ i → i < n + k → I i ⊢ WP c (P i) fun _ => I (i + 1)) :
    I n ⊢ WP c (rep P k n) fun _ => I (n + k) := by
  induction k generalizing n with
  | zero => exact WP_pure c _ _
  | succ k ih =>
    unfold rep
    rw [WP_bind]
    refine (h n le_rfl (by omega)).trans (wp_mono _ _ _ fun _ => ?_)
    rw [show n + (k + 1) = n + 1 + k from by omega]
    exact ih (n + 1) fun i hi hi' => h i (by omega) (by omega)

/-- A loop that carries a value. -/
theorem repm_wp (c : Dev nD) (P : ℕ → F .f32 → Prog (TpuEff nD τ sig (Elt F) Λ₀ .tc) (F .f32)) (g : ℕ → F .f32)
    (I : ℕ → sProp 𝕄) (k n : ℕ)
    (h : ∀ i, n ≤ i → i < n + k → I i ⊢ WP c (P i (g i)) fun a => iprop(⌜a = g (i + 1)⌝ ∗ I (i + 1))) :
    I n ⊢ WP c (repm P k n (g n)) fun a => iprop(⌜a = g (n + k)⌝ ∗ I (n + k)) := by
  induction k generalizing n with
  | zero =>
    refine BIBase.Entails.trans ?_ (WP_pure c _ _)
    iintro H
    isplitr; · ipureintro; rfl
    iexact H
  | succ k ih =>
    unfold repm
    rw [WP_bind]
    refine (h n le_rfl (by omega)).trans (wp_mono _ _ _ fun a => ?_)
    rw [show n + (k + 1) = n + 1 + k from by omega]
    iintro ⟨%ha, H⟩
    subst ha
    iapply (ih (n + 1) fun i hi hi' => h i (by omega) (by omega))
    iexact H

/-! ## Products -/

/-- Device `c`'s staged operands. -/
def opsIs (X : Dev nD → Vec F S4096x512 .bf16) (Wt : Dev nD → Vec F S512x8192 .bf16) (c : Dev nD) : sProp 𝕄 :=
  iprop((((c : Thread nD τ).loc cc0_stg0_0) ↦{fullShare} (X c : Buf (Elt F) ((c : Thread nD τ).loc cc0_stg0_0)))
    ∗ (((c : Thread nD τ).loc cc0_stg1_0) ↦{fullShare} (Wt c : Buf (Elt F) ((c : Thread nD τ).loc cc0_stg1_0))))

section Steps

variable (X : Dev nD → Vec F S4096x512 .bf16) (Wt : Dev nD → Vec F S512x8192 .bf16) (c : Dev nD)

theorem prod_wp (q t : Fin 8) :
    opsIs X Wt c ⊢ WP c (prodP c q t) fun p => iprop(⌜p = term X Wt c q t⌝ ∗ opsIs X Wt c) := by
  unfold opsIs prodP
  simp only [Prog.lift, Prog.bind_op, Prog.bind_ret, Prog.pure_eq_ret]
  iintro ⟨HX, HW⟩
  iapply (wp_load 𝒱₀ (c : Thread nD τ) none Set.univ (m := xRef) (Finset.subset_univ _)) $$ HX; iintro HX
  iapply (wp_load 𝒱₀ (c : Thread nD τ) none Set.univ (m := wRef) (Finset.subset_univ _)) $$ HW; iintro HW
  rw [wp_ret]; imodintro
  isplitr; · ipureintro; rfl
  isplitl [HX] <;> iassumption

/-! ## Slots of the communication buffer -/

theorem slot_set (q : Fin 8) (b : Fin 2) : (slotB q b).view.set = (commRef.access (cRect q b)).set :=
  View.set_reshape _ _

theorem slot_read (q : Fin 8) (b : Fin 2) (f : (slotB q b).view.ty.Contents (Elt F)) :
    (slotB q b).view.read (Elt F) f
      = (shapeCast S512x1024 ((commRef.access (cRect q b)).read (Elt F) f : Vec F S1x1x512x1024 .bf16)
          shapeCasts_S1x1x512x1024_S512x1024 : FVec F S512x1024 .bf16) := rfl

/-- Writing a packed value into the slot leaves that value, rounded, to be read. -/
theorem slot_write (q : Fin 8) (b : Fin 2) (f : (slotB q b).view.ty.Contents (Elt F)) (y : FVec F S512x1024 .f32) :
    (slotB q b).view.read (Elt F) ((commRef.access (cRect q b)).write (Elt F) f (pack y) Finset.univ)
      = truncf .bf16 y bitsLt_bf16_f32 := by
  rw [slot_read, View.read_write_univ]
  funext i
  unfold pack shapeCast
  rw [Shape.reshapeEquiv_reshapeEquiv, Shape.reshapeEquiv_self]

theorem get_wp (q : Fin 8) (b : Fin 2) (v : FVec F S512x1024 .bf16) :
    slotIs c q b v ⊢ WP c (Prog.lift (.load commRef (cRect q b).toLoadRect (View.loadsAt_vmem h_S1x1x512x1024)))
      fun r => iprop(⌜(shapeCast S512x1024 (r : Vec F S1x1x512x1024 .bf16) shapeCasts_S1x1x512x1024_S512x1024 : FVec F S512x1024 .bf16) = v⌝
        ∗ slotIs c q b v) := by
  unfold slotIs owns
  simp only [Prog.lift]
  iintro ⟨%f, %hf, H⟩
  iapply (wp_load_rect 𝒱₀ (c : Thread nD τ) none Set.univ (m := commRef) (r := cRect q b) (S := (slotB q b).view.set)
    (by rw [slot_set])) $$ H; iintro H
  rw [wp_ret]; imodintro
  isplitr; · ipureintro; exact hf
  iexists f
  isplitr; · ipureintro; exact hf
  iexact H

theorem put_wp (q : Fin 8) (b : Fin 2) (y : FVec F S512x1024 .f32) :
    slotAny c q b ⊢ WP c (putP q b y) fun _ => slotIs c q b (truncf .bf16 y bitsLt_bf16_f32) := by
  unfold slotAny slotIs owns putP
  simp only [Prog.lift, Prog.bind_op, Prog.bind_ret]
  iintro ⟨%v, %f, %hf, H⟩
  iapply (wp_load_rect 𝒱₀ (c : Thread nD τ) none Set.univ (m := commRef) (r := cRect q b) (S := (slotB q b).view.set)
    (by rw [slot_set])) $$ H; iintro H
  iapply (wp_store 𝒱₀ (c : Thread nD τ) none Set.univ (m := commRef) (r := cRect q b) (Mk := Finset.univ) (S := (slotB q b).view.set)
    (by rw [slot_set]; exact subset_rfl)) $$ H; iintro H
  rw [wp_ret]; imodintro
  iexists _
  isplitr; · ipureintro; exact slot_write q b f y
  iexact H

theorem slotIs_any (q : Fin 8) (b : Fin 2) (v : FVec F S512x1024 .bf16) : slotIs c q b v ⊢ slotAny (F := F) c q b := by
  unfold slotAny; iintro H; iexists v; iexact H

end Steps

end Cert.KernelIdeal.Hand

end
-- ==== Proof.Steps.lean ====
/- The body's communication steps: a send, a wait, a credit, each stated for the protocol's
   cells. -/
module

public import proofs.«01_k».proof.Proof.Views

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x512 .bf16) (Wt : Dev nD → Vec F S512x8192 .bf16)

instance : DecidableEq Ok := fun a b => Classical.propDecidable (a = b)
instance : DecidableEq (Dev nD × Ck) := inferInstance

/-- One of a family. -/
theorem at_one {I : Type} [Fintype I] [DecidableEq I] (i : I) (Φ : I → sProp 𝕄) : bigSep Finset.univ Φ ⊢ Φ i :=
  bigSep_elim (Finset.mem_univ i)

/-- What every device knows throughout: the cells' invariants, that every cell has reached its first round, and the
    levels. -/
def ctx (K : Dev nD × Ck → ℕ) : sProp 𝕄 :=
  iprop((bigSep Finset.univ fun ck : Dev nD × Ck => cellInv ER (Rd X Wt) (K ck) (cell ck.1 ck.2))
    ∗ (bigSep Finset.univ fun ck : Dev nD × Ck => reached ER (cell ck.1 ck.2) 0) ∗ levAts lab lv)

instance ctx_persistent (K : Dev nD × Ck → ℕ) : BI.Persistent (ctx X Wt K) := by unfold ctx; infer_instance

variable (K : Dev nD × Ck → ℕ)

theorem ctx_inv (c : Dev nD) (k : Ck) : ctx X Wt K ⊢ cellInv ER (Rd X Wt) (K (c, k)) (cell c k) := by
  unfold ctx; iintro ⟨H, -, -⟩
  iapply (at_one ((c, k) : Dev nD × Ck) (Φ := fun ck : Dev nD × Ck => cellInv ER (Rd X Wt) (K ck) (cell ck.1 ck.2)))
  iexact H

theorem ctx_reached (c : Dev nD) (k : Ck) : ctx X Wt K ⊢ reached ER (cell c k) 0 := by
  unfold ctx; iintro ⟨-, H, -⟩
  iapply (at_one ((c, k) : Dev nD × Ck) (Φ := fun ck : Dev nD × Ck => (reached ER (cell ck.1 ck.2) 0 : sProp 𝕄)))
  iexact H

theorem ctx_wait (c : Dev nD) (sm : SemLoc sig) (t : ℕ) (ht : t < 256) (O : CellTallies nD τ sig ℕ) (h : Later t O) :
    ctx X Wt K ⊢ MayWait (c : Thread nD τ) sm t O := by
  unfold ctx; iintro ⟨-, -, H⟩; iapply (mayWait c sm t ht O h); iexact H

theorem duties_snd (q : Fin 8) (s : ℕ) (hs : s < 7) : dutiesOf (kSnd q (sb s)) (s / 2) = {0} := by
  unfold dutiesOf; exact if_pos (by rw [sb_val]; omega)

theorem duties_rcv (q : Fin 8) (s : ℕ) (hs : s < 7) : dutiesOf (kRcv q (ob (sb s))) (s / 2) = {0} := by
  unfold dutiesOf; exact if_pos (by rw [ob_ob, sb_val]; omega)

theorem duties_crd (q : Fin 8) (s : ℕ) (hs : s < 6) : dutiesOf (kCrd q) s = {0} := by
  unfold dutiesOf; exact if_pos hs

theorem mem_duty (c : Dev nD) (k : Ck) (r : ℕ) (h : dutiesOf k r = {0}) : 0 ∈ (Rd X Wt).duties (cell c k) r := by
  rw [duties_cell, h]; exact Finset.mem_singleton_self _

/-- What a device owes. -/
def owe (c : Dev nD) (O : CellTallies nD τ sig ℕ) : sProp 𝕄 := iprop(∃ W, owes (c : Thread nD τ) O W)

variable (c : Dev nD)

/-- A wait for a round of one duty. -/
theorem wait_wp (k : Ck) (w : TpuEff nD τ sig (Elt F) Λ₀ .tc PUnit)
    (hw : ∀ Q : PUnit → sProp 𝕄, wpE (defs₀ (F := F)) 𝒱₀ (c : Thread nD τ) none Set.univ w Q
      = waitSpec (c : Thread nD τ) Set.univ (csem k) (amountOf k) Q)
    (r : ℕ) (hr : dutiesOf k r = {0}) (t : ℕ) (ht : t < 256) (O : CellTallies nD τ sig ℕ) (hO : Later t O) :
    iprop(ctx X Wt K ∗ cred (tallyAt (cell c k) t (amountOf k)) ∗ owe c O ∗ atPos ER (cell c k) r ∅ 0)
      ⊢ WP c (Prog.lift w) fun _ => iprop(owe c O ∗ atPos ER (cell c k) (r + 1) ∅ 0 ∗ reached ER (cell c k) (r + 1)
          ∗ payloadOf X Wt c k r 0) := by
  unfold owe
  iintro ⟨#HC, Hc, ⟨%W, HO⟩, Hat⟩
  unfold Prog.lift
  iapply (Rounds.wp_wait_rest_token 𝒱₀ ER (Rd X Wt) (c : Thread nD τ) none (κ := K (c, k)) hw (Set.mem_univ _) t (O := O) (W := W)
      (R := r) (m := 0) (T := ∅) (by rw [expect_cell, hr, Finset.card_singleton, Nat.one_mul, Nat.zero_add])) $$ [Hc HO Hat]
  · isplitr; · iapply (ctx_inv X Wt K c k); iexact HC
    isplitl [Hc]; · iexact Hc
    isplitl [HO]; · iexact HO
    isplitr; · iapply (ctx_wait X Wt K c (csem k) t ht O hO); iexact HC
    iexact Hat
  iintro ⟨HO, Hat, #Hr, Hp⟩
  ihave Hp' := (Entails.of_eq (rest_one X Wt c k r hr)) $$ Hp
  rw [wp_ret]; imodintro
  isplitl [HO]; · iexists _; iexact HO
  isplitl [Hat]; · iexact Hat
  isplitr; · iexact Hr
  iexact Hp'

/-- The wait for an arrival. -/
theorem recv_wp (q : Fin 8) (s : ℕ) (hs : s < 7) (t : ℕ) (ht : t < 256) (O : CellTallies nD τ sig ℕ) (hO : Later t O) :
    iprop(ctx X Wt K ∗ cred (tallyAt (cell c (kRcv q (ob (sb s)))) t NB) ∗ owe c O ∗ atPos ER (cell c (kRcv q (ob (sb s)))) (s / 2) ∅ 0)
      ⊢ WP c (recvP q (sb s)) fun _ => iprop(owe c O ∗ atPos ER (cell c (kRcv q (ob (sb s)))) (s / 2 + 1) ∅ 0
          ∗ reached ER (cell c (kRcv q (ob (sb s)))) (s / 2 + 1) ∗ arrPay X Wt c q s) := by
  have e : 2 * (s / 2) + (ob (ob (sb s))).val = s := by rw [ob_ob, sb_val]; omega
  have h := wait_wp X Wt K c (kRcv q (ob (sb s)))
    (.waitDma2 (recvS q (ob (sb s))) (slotB q (sb s)) (slotB q (ob (sb s))) (slot_words q (sb s)) (slot_words q (ob (sb s))))
    (wpE_waitDma2_eq 𝒱₀ (c : Thread nD τ) none Set.univ) (s / 2) (duties_rcv q s hs) t ht O hO
  rwa [show payloadOf X Wt c (kRcv q (ob (sb s))) (s / 2) 0 = arrPay X Wt c q s from by
    show arrPay X Wt c q (2 * (s / 2) + (ob (ob (sb s))).val) = _
    rw [e]] at h

/-- The wait for a slot to have been read off. -/
theorem sent_wp (q : Fin 8) (s : ℕ) (hs : s < 7) (O : CellTallies nD τ sig ℕ) (hO : Later 0 O) :
    iprop(ctx X Wt K ∗ cred (tallyAt (cell c (kSnd q (sb s))) 0 NB) ∗ owe c O ∗ atPos ER (cell c (kSnd q (sb s))) (s / 2) ∅ 0)
      ⊢ WP c (sentP q (sb s)) fun _ => iprop(owe c O ∗ atPos ER (cell c (kSnd q (sb s))) (s / 2 + 1) ∅ 0
          ∗ reached ER (cell c (kSnd q (sb s))) (s / 2 + 1) ∗ slotAny (F := F) c q (sb s)) :=
  wait_wp X Wt K c (kSnd q (sb s))
    (.waitDma2 (sendS q (sb s)) (slotB q (ob (sb s))) (slotB q (sb s)) (slot_words q (ob (sb s))) (slot_words q (sb s)))
    (wpE_waitDma2_eq 𝒱₀ (c : Thread nD τ) none Set.univ) (s / 2)
    (duties_snd q s hs) 0 (by decide) O hO

/-- The wait for a credit. -/
theorem credit_wp (q : Fin 8) (s : ℕ) (hs : s < 6) (t : ℕ) (ht : t < 256) (O : CellTallies nD τ sig ℕ) (hO : Later t O) :
    iprop(ctx X Wt K ∗ cred (tallyAt (cell c (kCrd q)) t 1) ∗ owe c O ∗ atPos ER (cell c (kCrd q)) s ∅ 0)
      ⊢ WP c (semWaitWord (credS q) 1#32) fun _ => iprop(owe c O ∗ atPos ER (cell c (kCrd q)) (s + 1) ∅ 0
          ∗ reached ER (cell c (kCrd q)) (s + 1) ∗ crdPay (F := F) c q s) :=
  wait_wp X Wt K c (kCrd q) (.semWait (credS q) 1)
    (wpE_semWait_eq 𝒱₀ (c : Thread nD τ) none Set.univ) s (duties_crd q s hs) t ht O hO

/-- Giving a credit to the device upstream. -/
theorem grant_wp (q : Fin 8) (s : ℕ) (hs : s < 6) (t : ℕ) (O : CellTallies nD τ sig ℕ) :
    iprop(ctx X Wt K ∗ owe c (O + tallyAt (cell (upD q c) (kCrd q)) t 1) ∗ dutyTok ER (cell (upD q c) (kCrd q)) s 0
        ∗ reached ER (cell (upD q c) (kCrd q)) s ∗ crdPay (F := F) (upD q c) q s)
      ⊢ WP c (semSignalWord (upD q c) (credS q) 1#32) fun _ => owe c O := by
  unfold owe
  iintro ⟨#HC, ⟨%W, HO⟩, Ht, #Hr, Hp⟩
  simp only [semSignalWord, Prog.lift]
  iapply (Rounds.wp_signal 𝒱₀ ER (Rd X Wt) (c : Thread nD τ) none (dst := (upD q c : Thread nD τ)) (sem := credS q) (κ := K (upD q c, kCrd q))
      (r := s) (d := 0) (mem_duty X Wt (upD q c) (kCrd q) s (duties_crd q s hs))
      (amount_cell X Wt (upD q c) (kCrd q) s 0) t O rfl) $$ [HO Ht Hp]
  · isplitr; · iapply (ctx_inv X Wt K (upD q c) (kCrd q)); iexact HC
    isplitl [HO]; · iexact HO
    isplitl [Ht]; · iexact Ht
    isplitl [Hp]
    · rw [show (Rd X Wt).payload ((upD q c : Thread nD τ), .reg (credS q)) s 0 = crdPay (F := F) (upD q c) q s from
        payload_cell X Wt (upD q c) (kCrd q) s 0]
      iexact Hp
    iexact Hr
  iintro HO
  rw [wp_ret]; imodintro
  iexists W; iexact HO

/-- A send. -/
theorem send_wp (q : Fin 8) (s : ℕ) (hs : s < 7) (t : ℕ) (O : CellTallies nD τ sig ℕ) :
    iprop(ctx X Wt K ∗ slotIs c q (sb s) (sent X Wt c q s) ∗ slotAny (F := F) (dn q c) q (ob (sb s))
        ∗ owe c (O + tallyAt (cell (dn q c) (kRcv q (ob (sb s)))) t NB)
        ∗ dutyTok ER (cell c (kSnd q (sb s))) (s / 2) 0 ∗ reached ER (cell c (kSnd q (sb s))) (s / 2)
        ∗ dutyTok ER (cell (dn q c) (kRcv q (ob (sb s)))) (s / 2) 0 ∗ reached ER (cell (dn q c) (kRcv q (ob (sb s)))) (s / 2)
        ∗ reached ER (cell c (kCrd q)) s)
      ⊢ WP c (sendP c q (sb s)) fun _ => iprop(owe c O ∗ cred (tallyAt (cell c (kSnd q (sb s))) 0 NB)) := by
  have e : 2 * (s / 2) + (ob (ob (sb s))).val = s := by rw [ob_ob, sb_val]; omega
  unfold owe slotAny slotIs owns sendP
  iintro ⟨#HC, ⟨%f, %hf, Hs⟩, ⟨%v, %g, %hg, Hd⟩, ⟨%W, HO⟩, Ht1, #Hr1, Ht2, #Hr2, #Hr3⟩
  unfold Prog.lift
  iapply (Rounds.wp_send_pointsTo_with 𝒱₀ ER (Rd X Wt) (c : Thread nD τ) none (c' := (dn q c : Thread nD τ)) (sS := .dma (sendS q (sb s))) (sem := .dma (recvS q (ob (sb s))))
      (src := slotB q (sb s)) (dst := slotB q (ob (sb s))) (κ₁ := K (c, kSnd q (sb s))) (κ₂ := K (dn q c, kRcv q (ob (sb s))))
      (r₁ := s / 2) (r₂ := s / 2) (d₁ := 0) (d₂ := 0) (fs := f) (fd := g) (q := fullShare) (F := reached ER (cell c (kCrd q)) s)
      (mem_duty X Wt c (kSnd q (sb s)) (s / 2) (duties_snd q s hs))
      (mem_duty X Wt (dn q c) (kRcv q (ob (sb s))) (s / 2) (duties_rcv q s hs))
      t 0 NB rfl (amount_cell X Wt c (kSnd q (sb s)) _ _) (amount_cell X Wt (dn q c) (kRcv q (ob (sb s))) _ _) O rfl
      (by rw [show (Rd X Wt).payload ((c : Thread nD τ), .dma (sendS q (sb s))) (s / 2) 0 = slotAny (F := F) c q (sb s) from
            payload_cell X Wt c (kSnd q (sb s)) _ _]
          unfold slotAny slotIs owns
          iintro H; iexists _; iexists f; isplitr
          · ipureintro; rfl
          · iexact H)
      (by rw [show (Rd X Wt).payload ((dn q c : Thread nD τ), .dma (recvS q (ob (sb s)))) (s / 2) 0 = arrPay X Wt (dn q c) q (2 * (s / 2) + (ob (ob (sb s))).val) from
            payload_cell X Wt (dn q c) (kRcv q (ob (sb s))) _ _, e]
          unfold arrPay slotIs owns
          rw [up_dn]
          iintro ⟨H, #HR⟩
          isplitl [H]
          · iexists _; isplitr
            · ipureintro; exact (View.read_write_univ g _).trans hf
            · iexact H
          · iexact HR)) $$ [HO Ht1 Ht2 Hs Hd]
  · isplitr; · iapply (ctx_inv X Wt K c (kSnd q (sb s))); iexact HC
    isplitr; · iapply (ctx_inv X Wt K (dn q c) (kRcv q (ob (sb s)))); iexact HC
    isplitl [Hs]; · iexact Hs
    isplitl [Hd]
    · isplitl [Hd]; · iexact Hd
      iexact Hr3
    isplitl [HO]; · iexact HO
    isplitl [Ht1]; · iexact Ht1
    isplitr; · iexact Hr1
    isplitl [Ht2]; · iexact Ht2
    iexact Hr2
  iintro ⟨Hc, HO⟩
  rw [wp_ret]; imodintro
  isplitl [HO]; · iexists W; iexact HO
  iexact Hc

end Cert.KernelIdeal.Hand

end
-- ==== Proof.Ring.lean ====
/- The ring: the first send of a stream, its relays, its last arrival, each as one step that takes a stream from one state
   to the next. -/
module

public import proofs.«01_k».proof.Proof.Steps

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x512 .bf16) (Wt : Dev nD → Vec F S512x8192 .bf16)
variable (K : Dev nD × Ck → ℕ) (c : Dev nD)

/-! ## States of a stream -/

/-- The maxima's slots device `c` holds on the devices one to `s` places to its right. -/
def coll : ℕ → sProp 𝕄
  | 0 => iprop(emp)
  | s + 1 => iprop(coll s ∗ maxAny (F := F) (farD c (s7 s)) c)

/-- Those, and what it has yet to pass on, after `s` credits. -/
def hold (s : ℕ) : sProp 𝕄 := iprop(coll (F := F) c s ∗ pass (F := F) (7 - s) c)

/-- Held with stream 0. -/
def holdQ (q : Fin 8) (s : ℕ) : sProp 𝕄 := if q.val = 0 then hold (F := F) c s else iprop(emp)

/-- Before the first send. -/
def stPre (q : Fin 8) : sProp 𝕄 :=
  iprop(slotAny (F := F) c q 0 ∗ (slotAny (F := F) (dn q c) q 1 ∗ reached ER (cell (dn q c) (kRcv q 1)) 0)
    ∗ atPos ER (cell c (kSnd q 0)) 0 ∅ 0 ∗ atPos ER (cell c (kSnd q 1)) 0 ∅ 0
    ∗ atPos ER (cell c (kRcv q 0)) 0 ∅ 0 ∗ atPos ER (cell c (kRcv q 1)) 0 ∅ 0
    ∗ atPos ER (cell c (kCrd q)) 0 ∅ 0 ∗ holdQ (F := F) c q 0)

/-- With send number `s` under way. -/
def stRel (q : Fin 8) (s : ℕ) : sProp 𝕄 :=
  iprop(cred (tallyAt (cell c (kSnd q (sb s))) 0 NB)
    ∗ atPos ER (cell c (kSnd q (sb s))) (s / 2) ∅ 0
    ∗ (atPos ER (cell c (kSnd q (ob (sb s)))) ((s + 1) / 2) ∅ 0 ∗ reached ER (cell c (kSnd q (ob (sb s)))) ((s + 1) / 2))
    ∗ atPos ER (cell c (kRcv q (ob (sb s)))) (s / 2) ∅ 0
    ∗ (atPos ER (cell c (kRcv q (sb s))) ((s + 1) / 2) ∅ 0 ∗ reached ER (cell c (kRcv q (sb s))) ((s + 1) / 2))
    ∗ (atPos ER (cell c (kCrd q)) s ∅ 0 ∗ reached ER (cell c (kCrd q)) s) ∗ holdQ (F := F) c q s)

/-- After the last arrival. -/
def stEnd (q : Fin 8) : sProp 𝕄 :=
  iprop(cred (tallyAt (cell c (kSnd q 0)) 0 NB) ∗ slotAny (F := F) c q 1
    ∗ atPos ER (cell c (kSnd q 0)) 3 ∅ 0 ∗ atPos ER (cell c (kSnd q 1)) 3 ∅ 0
    ∗ atPos ER (cell c (kRcv q 0)) 3 ∅ 0 ∗ atPos ER (cell c (kRcv q 1)) 4 ∅ 0
    ∗ atPos ER (cell c (kCrd q)) 6 ∅ 0 ∗ holdQ (F := F) c q 6)

/-- After the last send has been read off. -/
def stFin (q : Fin 8) : sProp 𝕄 :=
  iprop((slotAny (F := F) c q 0 ∗ slotAny (F := F) c q 1)
    ∗ (atPos ER (cell c (kSnd q 0)) 4 ∅ 0 ∗ atPos ER (cell c (kSnd q 1)) 3 ∅ 0
    ∗ atPos ER (cell c (kRcv q 0)) 3 ∅ 0 ∗ atPos ER (cell c (kRcv q 1)) 4 ∅ 0
    ∗ atPos ER (cell c (kCrd q)) 6 ∅ 0) ∗ holdQ (F := F) c q 6)

/-- The tokens of send number `s`. -/
def sendTok (q : Fin 8) (s : ℕ) : sProp 𝕄 :=
  iprop(dutyTok ER (cell c (kSnd q (sb s))) (s / 2) 0 ∗ dutyTok ER (cell (dn q c) (kRcv q (ob (sb s)))) (s / 2) 0)

/-- What send number `s` owes its receiver. -/
abbrev arrOwed (q : Fin 8) (s t : ℕ) : CellTallies nD τ sig ℕ := tallyAt (cell (dn q c) (kRcv q (ob (sb s)))) t NB
/-- What credit number `s` owes the device upstream. -/
abbrev crdOwed (q : Fin 8) (t : ℕ) : CellTallies nD τ sig ℕ := tallyAt (cell (upD q c) (kCrd q)) t 1

/-! ## The first send -/

theorem first_wp (q : Fin 8) (t : ℕ) (O : CellTallies nD τ sig ℕ) :
    iprop(ctx X Wt K ∗ opsIs X Wt c ∗ owe (F := F) c (O + arrOwed c q 0 t) ∗ sendTok (F := F) c q 0 ∗ stPre (F := F) c q)
      ⊢ WP c (firstP c q) fun _ => iprop(opsIs X Wt c ∗ owe (F := F) c O ∗ stRel (F := F) c q 0) := by
  unfold firstP sendTok stPre
  iintro ⟨#HC, HX, HO, ⟨Ht1, Ht2⟩, Hs, ⟨Hd, #Hr⟩, Hs0, Hs1, Hv0, Hv1, Hc, Hh⟩
  iapply (seq (prod_wp X Wt c q 0)) $$ HX
  iintro %p ⟨%hp, HX⟩
  subst hp
  iapply (seq (put_wp c q 0 (term X Wt c q 0))) $$ Hs
  iintro %_ Hs
  iapply (fin (send_wp X Wt K c q 0 (by decide) t O)) $$ [HO Ht1 Ht2 Hs Hd]
  · isplitr; · iexact HC
    isplitl [Hs]; · iexact Hs
    isplitl [Hd]; · iexact Hd
    isplitl [HO]; · iexact HO
    isplitl [Ht1]; · iexact Ht1
    isplitr; · iapply (ctx_reached X Wt K c (kSnd q 0)); iexact HC
    isplitl [Ht2]; · iexact Ht2
    isplitr; · iexact Hr
    iapply (ctx_reached X Wt K c (kCrd q)); iexact HC
  iintro %_ ⟨HO, Hcr⟩
  isplitl [HX]; · iexact HX
  isplitl [HO]; · iexact HO
  unfold stRel
  isplitl [Hcr]; · iexact Hcr
  isplitl [Hs0]; · iexact Hs0
  isplitl [Hs1]
  · isplitl [Hs1]; · iexact Hs1
    iapply (ctx_reached X Wt K c (kSnd q 1)); iexact HC
  isplitl [Hv1]; · iexact Hv1
  isplitl [Hv0]
  · isplitl [Hv0]; · iexact Hv0
    iapply (ctx_reached X Wt K c (kRcv q 0)); iexact HC
  isplitl [Hc]
  · isplitl [Hc]; · iexact Hc
    iapply (ctx_reached X Wt K c (kCrd q)); iexact HC
  iexact Hh

/-! ## A relay -/

theorem pass_succ (k : ℕ) : pass (F := F) (k + 1) c = iprop(maxAny (F := F) (farD c (s7 (6 - k))) c ∗ pass (F := F) k (leftD c)) := rfl
theorem coll_succ (s : ℕ) : coll (F := F) c (s + 1) = iprop(coll (F := F) c s ∗ maxAny (F := F) (farD c (s7 s)) c) := rfl

/-- What a device passes on with its credit, and what it keeps. -/
theorem hold_split (q : Fin 8) (s : ℕ) (hs : s < 6) :
    holdQ (F := F) c q s ⊢ iprop((if q.val = 0 then iprop(coll (F := F) c (s + 1)) else iprop(emp))
      ∗ (if q.val = 0 then pass (F := F) (6 - s) (upD q c) else iprop(emp))) := by
  unfold holdQ
  by_cases h : q.val = 0
  · simp only [if_pos h]
    have hu : upD q c = leftD c := by unfold upD; exact if_pos (by omega)
    have h6 : 6 - (6 - s) = s := by omega
    unfold hold
    rw [hu, show 7 - s = (6 - s) + 1 from by omega, pass_succ, h6, coll_succ]
    iintro ⟨H1, H2, H3⟩
    isplitl [H1 H2]
    · isplitl [H1]; · iexact H1
      iexact H2
    · iexact H3
  · simp only [if_neg h]
    iintro H
    isplitr <;> itrivial

theorem hold_join (q : Fin 8) (s : ℕ) (hs : s < 6) :
    iprop((if q.val = 0 then iprop(coll (F := F) c (s + 1)) else iprop(emp))
      ∗ (if q.val = 0 then pass (F := F) (6 - s) c else iprop(emp))) ⊢ holdQ (F := F) c q (s + 1) := by
  unfold holdQ
  by_cases h : q.val = 0
  · simp only [if_pos h]
    unfold hold
    rw [show 7 - (s + 1) = 6 - s from by omega]
  · simp only [if_neg h]
    iintro H
    itrivial

theorem sent_succ (q : Fin 8) (s : ℕ) : sent X Wt c q (s + 1)
    = truncf .bf16 (plus (term X Wt c q (chunk s)) (sent X Wt (upD q c) q s)) bitsLt_bf16_f32 := rfl

theorem relay_wp (q : Fin 8) (s : ℕ) (hs : s < 6) (t t' u : ℕ) (htt : t < t') (ht : t' < 256) (htu : t' < u) (hu : u < 256)
    (O : CellTallies nD τ sig ℕ) (hO : Later t' O) :
    iprop(ctx X Wt K ∗ opsIs X Wt c ∗ owe (F := F) c (O + arrOwed c q (s + 1) u + crdOwed c q t')
        ∗ (sendTok (F := F) c q (s + 1) ∗ dutyTok ER (cell (upD q c) (kCrd q)) s 0)
        ∗ (cred (tallyAt (cell c (kRcv q (ob (sb s)))) t NB) ∗ cred (tallyAt (cell c (kCrd q)) t' 1))
        ∗ stRel (F := F) c q s)
      ⊢ WP c (relayP c q s) fun _ => iprop(opsIs X Wt c ∗ owe (F := F) c O ∗ stRel (F := F) c q (s + 1)) := by
  have hO1 : Later t' (O + arrOwed c q (s + 1) u) := hO.add (Later.one _ _ _ _ htu hu)
  have hO2 : Later t (O + arrOwed c q (s + 1) u + crdOwed c q t') :=
    (hO1.mono htt.le).add (Later.one _ _ _ _ htt ht)
  have ho : ob (sb (s + 1)) = sb s := by rw [sb_succ, ob_ob]
  have hd : dn q (upD q c) = c := dn_up q c
  unfold relayP sendTok stRel
  iintro ⟨#HC, HX, HO, ⟨⟨Ht1, Ht2⟩, Ht3⟩, ⟨Hc1, Hc2⟩, Hcs, Hs0, ⟨Hs1, #Hs1'⟩, Hv1, ⟨Hv0, #Hv0'⟩, ⟨Hcp, #Hcp'⟩, Hh⟩
  iapply (seq (prod_wp X Wt c q (chunk s))) $$ HX
  iintro %p ⟨%hp, HX⟩
  subst hp
  iapply (seq (recv_wp X Wt K c q s (by omega) t (by omega) _ hO2)) $$ [Hc1 HO Hv1]
  · isplitr; · iexact HC
    isplitl [Hc1]; · iexact Hc1
    isplitl [HO]; · iexact HO
    iexact Hv1
  iintro %_ ⟨HO, Hv1, #Hv1', Ha⟩
  unfold arrPay
  icases Ha with ⟨Hslot, #Hup⟩
  iapply (seq (get_wp c q (ob (sb s)) (sent X Wt (upD q c) q s))) $$ Hslot
  iintro %r ⟨%hr, Hslot⟩
  ihave Hslot := (slotIs_any c q (ob (sb s)) _) $$ Hslot
  iapply (seq (put_wp c q (ob (sb s)) (accv (term X Wt c q (chunk s)) r))) $$ Hslot
  iintro %_ Hslot
  iapply (seq (sent_wp X Wt K c q s (by omega) _ (hO2.mono (Nat.zero_le _)))) $$ [Hcs HO Hs0]
  · isplitr; · iexact HC
    isplitl [Hcs]; · iexact Hcs
    isplitl [HO]; · iexact HO
    iexact Hs0
  iintro %_ ⟨HO, Hs0, #Hs0', Hfree⟩
  ihave ⟨Hk, Hp⟩ := (hold_split (F := F) c q s hs) $$ Hh
  iapply (seq (grant_wp X Wt K c q s hs t' (O + arrOwed c q (s + 1) u))) $$ [HO Ht3 Hfree Hp]
  · isplitr; · iexact HC
    isplitl [HO]; · iexact HO
    isplitl [Ht3]; · iexact Ht3
    isplitr; · iexact Hup
    unfold crdPay
    rw [hd]
    isplitl [Hfree]
    · isplitl [Hfree]; · iexact Hfree
      iexact Hv0'
    iexact Hp
  iintro %_ HO
  iapply (seq (credit_wp X Wt K c q s hs t' ht _ hO1)) $$ [Hc2 HO Hcp]
  · isplitr; · iexact HC
    isplitl [Hc2]; · iexact Hc2
    isplitl [HO]; · iexact HO
    iexact Hcp
  iintro %_ ⟨HO, Hcp, #Hcp'', Hpay⟩
  unfold crdPay
  icases Hpay with ⟨⟨Hdst, #Hdst'⟩, Hp⟩
  have hv : accv (term X Wt c q (chunk s)) r = plus (term X Wt c q (chunk s)) (sent X Wt (upD q c) q s) := by
    unfold accv plus; rw [hr]
  rw [hv, ← sent_succ, ← sb_succ s]
  iapply (fin (send_wp X Wt K c q (s + 1) (by omega) u O)) $$ [HO Ht1 Ht2 Hslot Hdst]
  · unfold arrOwed
    rw [ho]
    isplitr; · iexact HC
    isplitl [Hslot]; · iexact Hslot
    isplitl [Hdst]; · iexact Hdst
    isplitl [HO]; · iexact HO
    isplitl [Ht1]; · iexact Ht1
    isplitr; · iexact Hs1'
    isplitl [Ht2]; · iexact Ht2
    isplitr; · iexact Hdst'
    iexact Hcp''
  iintro %_ ⟨HO, Hcr⟩
  isplitl [HX]; · iexact HX
  isplitl [HO]; · iexact HO
  rw [ho, show (s + 1 + 1) / 2 = s / 2 + 1 from by omega]
  isplitl [Hcr]; · iexact Hcr
  isplitl [Hs1]; · iexact Hs1
  isplitl [Hs0]
  · isplitl [Hs0]; · iexact Hs0
    iexact Hs0'
  isplitl [Hv0]; · iexact Hv0
  isplitl [Hv1]
  · isplitl [Hv1]; · iexact Hv1
    iexact Hv1'
  isplitl [Hcp]
  · isplitl [Hcp]; · iexact Hcp
    iexact Hcp''
  iapply (hold_join (F := F) c q s hs)
  isplitl [Hk]; · iexact Hk
  iexact Hp

/-! ## The last send read off -/

theorem off_wp (q : Fin 8) (O : CellTallies nD τ sig ℕ) (hO : Later 0 O) :
    iprop(ctx X Wt K ∗ owe (F := F) c O ∗ stEnd (F := F) c q)
      ⊢ WP c (sentP q 0) fun _ => iprop(owe (F := F) c O ∗ stFin (F := F) c q) := by
  unfold stEnd
  iintro ⟨#HC, HO, Hcs, Hslot, Hs0, Hr⟩
  iapply (fin (sent_wp X Wt K c q 6 (by decide) O hO)) $$ [Hcs HO Hs0]
  · isplitr; · iexact HC
    isplitl [Hcs]; · iexact Hcs
    isplitl [HO]; · iexact HO
    iexact Hs0
  iintro %_ ⟨HO, Hs0, -, Hfree⟩
  isplitl [HO]; · iexact HO
  unfold stFin
  icases Hr with ⟨Hs1, Hv0, Hv1, Hc, Hh⟩
  isplitl [Hslot Hfree]
  · isplitl [Hfree]; · iexact Hfree
    iexact Hslot
  isplitr [Hh]
  · isplitl [Hs0]; · iexact Hs0
    isplitl [Hs1]; · iexact Hs1
    isplitl [Hv0]; · iexact Hv0
    isplitl [Hv1]; · iexact Hv1
    iexact Hc
  iexact Hh

end Cert.KernelIdeal.Hand

end
-- ==== Proof.Cols.lean ====
/- The result's columns: each stream's columns as a place of their own, the last arrival that fills them, and the
   quantisation that rewrites them. -/
module

public import proofs.«01_k».proof.Proof.Ring

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x512 .bf16) (Wt : Dev nD → Vec F S512x8192 .bf16)
variable (K : Dev nD × Ck → ℕ) (c : Dev nD)

/-- Columns `1024 j` to `1024 (j + 1)` of device `c`'s result, at contents `v`. -/
def colIs (j : Fin 8) (v : Vec F S512x1024 .f32) : sProp 𝕄 :=
  owns (c : Thread nD τ) (oRef.slice (tRect j) (fun _ => rfl)) fullShare v
def colAny (j : Fin 8) : sProp 𝕄 := iprop(∃ v, colIs (F := F) c j v)

/-- Which of these columns stream `q` fills. -/
def tix (q : Fin 8) : Fin 8 := ⟨4 * (q.val % 2) + q.val / 2, by omega⟩

theorem qcol_eq (q : Fin 8) (v : Vec F S512x1024 .f32) :
    (owns (c : Thread nD τ) (oRef.slice (qRect q) (fun _ => rfl)) fullShare v : sProp 𝕄) = colIs c (tix q) v := by
  fin_cases q <;> rfl

/-- Reading a rectangle of the result. -/
theorem rect_load (r : Rect S512x8192) (hr : ∀ a, r.stride a = 1) (v : r.shape.Idx → Elt F .f32)
    (h : oRef.view.LoadsAt r.toLoadRect) :
    (owns (c : Thread nD τ) (oRef.slice r hr) fullShare v : sProp 𝕄)
      ⊢ WP c (Prog.lift (.load oRef r.toLoadRect h)) fun y => iprop(⌜y = v⌝ ∗ owns (c : Thread nD τ) (oRef.slice r hr) fullShare v) := by
  unfold owns
  simp only [Prog.lift]
  iintro ⟨%f, %hf, H⟩
  iapply (wp_load_rect 𝒱₀ (c : Thread nD τ) none Set.univ (m := oRef) (r := r) (S := (oRef.access r).set) subset_rfl) $$ H; iintro H
  rw [wp_ret]; imodintro
  isplitr; · ipureintro; exact hf
  iexists f
  isplitr; · ipureintro; exact hf
  iexact H

/-- Writing one. -/
theorem rect_store (r : Rect S512x8192) (hr : ∀ a, r.stride a = 1) (v w : r.shape.Idx → Elt F .f32)
    (h : (oRef.access r).Stores Finset.univ) :
    (owns (c : Thread nD τ) (oRef.slice r hr) fullShare v : sProp 𝕄)
      ⊢ WP c (Prog.lift (.store oRef r w Finset.univ h (.inl rfl))) fun _ => owns (c : Thread nD τ) (oRef.slice r hr) fullShare w := by
  unfold owns
  simp only [Prog.lift]
  iintro ⟨%f, %hf, H⟩
  iapply (wp_store 𝒱₀ (c : Thread nD τ) none Set.univ (m := oRef) (r := r) (Mk := Finset.univ) (S := (oRef.access r).set) subset_rfl) $$ H; iintro H
  rw [wp_ret]; imodintro
  iexists _
  isplitr; · ipureintro; exact View.read_write_univ f w
  iexact H

/-- The last arrival of a stream. -/
theorem last_wp (q : Fin 8) (t : ℕ) (ht : t < 256) (O : CellTallies nD τ sig ℕ) (hO : Later t O) (m : F .f32) :
    iprop(ctx X Wt K ∗ opsIs X Wt c ∗ owe (F := F) c O ∗ cred (tallyAt (cell c (kRcv q (ob (sb 6)))) t NB) ∗ stRel (F := F) c q 6
        ∗ colAny (F := F) c (tix q))
      ⊢ WP c (lastP c q m) fun a => iprop(⌜a = maxv m (done X Wt c q)⌝ ∗ opsIs X Wt c ∗ owe (F := F) c O ∗ stEnd (F := F) c q
          ∗ colIs c (tix q) (done X Wt c q)) := by
  have e1 : ob (sb 6) = 1 := rfl
  unfold lastP stRel colAny
  iintro ⟨#HC, HX, HO, Hc1, ⟨Hcs, Hs0, ⟨Hs1, -⟩, Hv1, ⟨Hv0, -⟩, ⟨Hcp, -⟩, Hh⟩, ⟨%v, Hcol⟩⟩
  ihave Hcol := (Entails.of_eq (qcol_eq c q v).symm) $$ Hcol
  iapply (seq (prod_wp X Wt c q 7)) $$ HX
  iintro %p ⟨%hp, HX⟩
  subst hp
  iapply (seq (recv_wp X Wt K c q 6 (by decide) t ht O hO)) $$ [Hc1 HO Hv1]
  · isplitr; · iexact HC
    isplitl [Hc1]; · iexact Hc1
    isplitl [HO]; · iexact HO
    iexact Hv1
  iintro %_ ⟨HO, Hv1, -, Ha⟩
  unfold arrPay
  icases Ha with ⟨Hslot, -⟩
  rw [e1]
  iapply (seq (get_wp c q 1 (sent X Wt (upD q c) q 6))) $$ Hslot
  iintro %r ⟨%hr, Hslot⟩
  ihave Hslot := (slotIs_any c q 1 _) $$ Hslot
  iapply (seq (rect_load c (qRect q) (fun _ => rfl) v _)) $$ Hcol
  iintro %y ⟨-, Hcol⟩
  iapply (seq (rect_store c (qRect q) (fun _ => rfl) v _ _)) $$ Hcol
  iintro %_ Hcol
  have hv : accv (term X Wt c q 7) r = done X Wt c q := by unfold accv done plus; rw [hr]
  rw [hv]
  ihave Hcol := (Entails.of_eq (qcol_eq c q _)) $$ Hcol
  iapply (WP_pure c)
  isplitr; · ipureintro; rfl
  isplitl [HX]; · iexact HX
  isplitl [HO]; · iexact HO
  unfold stEnd
  isplitr [Hcol]
  · isplitl [Hcs]; · iexact Hcs
    isplitl [Hslot]; · iexact Hslot
    isplitl [Hs0]; · iexact Hs0
    isplitl [Hs1]; · iexact Hs1
    isplitl [Hv0]; · iexact Hv0
    isplitl [Hv1]; · iexact Hv1
    isplitl [Hcp]; · iexact Hcp
    iexact Hh
  iexact Hcol

/-- Quantising one. -/
theorem quant_wp (up down : F .f32) (j : Fin 8) (v : Vec F S512x1024 .f32) :
    colIs c j v ⊢ WP c (quantP up down j) fun _ => colIs c j (quantv up down v) := by
  unfold quantP colIs
  iintro H
  iapply (seq (rect_load c (tRect j) (fun _ => rfl) v _)) $$ H
  iintro %y ⟨%hy, H⟩
  iapply (seq (rect_load c (tRect j) (fun _ => rfl) v _)) $$ H
  iintro %z ⟨-, H⟩
  subst hy
  iapply (rect_store c (tRect j) (fun _ => rfl) _ _ _)
  iexact H

end Cert.KernelIdeal.Hand

end
-- ==== Proof.Max.lean ====
/- The exchange of the maxima: each device's maximum written, sent to the seven others, theirs received, its own back. -/
module

public import proofs.«01_k».proof.Proof.Cols
public import Idealize.ShloMosaic.Lib.MemrefSat
public import Idealize.SL.BI.BigOpNat

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x512 .bf16) (Wt : Dev nD → Vec F S512x8192 .bf16)
variable (K : Dev nD × Ck → ℕ) (c : Dev nD)

/-! ## The places -/

theorem off2_eq : ∀ (d : Dev nD) (a : Fin 3), k0_off2 d a = (![d.val, 0, 0] : Fin 3 → ℕ) a := by decide +kernel
theorem off3_eq : ∀ (d : Dev nD) (a : Fin 3), k0_off3 d a = (![d.val, 0, 0] : Fin 3 → ℕ) a := by decide +kernel

/-- Slot `d` of the maxima, as a rectangle. -/
theorem mSlot_inb (d : Fin 8) : ∀ a, (![d.val, 0, 0] : Fin 3 → ℕ) a + S1x8x128.size a ≤ S8x8x128.size a := by
  revert d; decide
abbrev mSlot (d : Fin 8) : Rect S8x8x128 := Rect.unit (s := S8x8x128) ![d.val, 0, 0] S1x8x128.size (mSlot_inb d)

/-- A slot of the maxima at given offsets, as a buffer of its own. -/
abbrev mAt (o : Fin 3 → ℕ) (h : ∀ a, o a + S1x8x128.size a ≤ S8x8x128.size a) : Memref sig .tc .vmem S8x128 .f32 :=
  (maxRef.slice (Rect.unit (s := S8x8x128) o S1x8x128.size h) (fun _ => rfl)).squeeze S8x128 squeezes_S1x8x128_S8x128

theorem own_set (d : Dev nD) : (ownSlot d).view.set = (maxRef.access (ownRect d)).set := by
  have e : k0_off3 d = k0_off2 d := funext fun a => (off3_eq d a).trans (off2_eq d a).symm
  have h : ∀ (o : Fin 3 → ℕ) (p : ∀ a, o a + S1x8x128.size a ≤ S8x8x128.size a) (_ : o = k0_off2 d),
      (mAt o p).view.set = (maxRef.access (ownRect d)).set := by
    intro o p ho; subst ho; exact View.set_reshape _ _
  exact h _ (k0_off3_inb d) e

theorem own_write (d : Dev nD) (f : (ownSlot d).view.ty.Contents (Elt F)) (m : F .f32) :
    (ownSlot d).view.read (Elt F) ((maxRef.access (ownRect d)).write (Elt F) f (mpack m) Finset.univ) = broadcast S8x128 m := by
  have e : k0_off3 d = k0_off2 d := funext fun a => (off3_eq d a).trans (off2_eq d a).symm
  have h : ∀ (o : Fin 3 → ℕ) (p : ∀ a, o a + S1x8x128.size a ≤ S8x8x128.size a) (_ : o = k0_off2 d),
      (mAt o p).view.read (Elt F) ((maxRef.access (ownRect d)).write (Elt F) f (mpack m) Finset.univ) = broadcast S8x128 m := by
    intro o p ho
    subst ho
    show (shapeCast S8x128 ((maxRef.access (ownRect d)).read (Elt F) ((maxRef.access (ownRect d)).write (Elt F) f (mpack m) Finset.univ) : Vec F S1x8x128 .f32) _ : Vec F S8x128 .f32) = _
    rw [View.read_write_univ]
    rfl
  exact h _ (k0_off3_inb d) e

/-- Writing the device's own maximum. -/
theorem mput_wp (m : F .f32) : maxAny c c ⊢ WP c (mputP c m) fun _ => maxIs c c fullShare (broadcast S8x128 m) := by
  unfold maxAny maxIs owns mputP
  simp only [Prog.lift, Prog.bind_op, Prog.bind_ret]
  iintro ⟨%v, %f, %hf, H⟩
  iapply (wp_load_rect 𝒱₀ (c : Thread nD τ) none Set.univ (m := maxRef) (r := ownRect c) (S := (ownSlot c).view.set)
    (by rw [own_set])) $$ H; iintro H
  iapply (wp_store 𝒱₀ (c : Thread nD τ) none Set.univ (m := maxRef) (r := ownRect c) (Mk := Finset.univ) (S := (ownSlot c).view.set)
    (by rw [own_set]; exact subset_rfl)) $$ H; iintro H
  rw [wp_ret]; imodintro
  iexists _
  isplitr; · ipureintro; exact own_write c f m
  iexact H

theorem max_halves (o : Dev nD) (q : PosShare TreeShare) (v : Vec F S8x128 .f32) :
    maxIs c o q v ⊢ iprop(maxIs c o q.left v ∗ maxIs c o q.right v) := by
  unfold maxIs owns
  iintro ⟨%f, %hf, H⟩
  ihave H2 := (pointsTo_share (PosShare.mem_left_op_right q)).1 $$ H
  icases H2 with ⟨Hl, Hr⟩
  isplitl [Hl]
  · iexists f; isplitr; · ipureintro; exact hf
    iexact Hl
  · iexists f; isplitr; · ipureintro; exact hf
    iexact Hr

/-! ## Sending it -/

/-- What a device owes the others, from maximum number `j` on for `k` of them. -/
def AmO : ℕ → ℕ → CellTallies nD τ sig ℕ
  | 0, _ => 0
  | k + 1, j => AmO k (j + 1) + tallyAt (cell (farD c (s7 j)) kMrc) tM NM

theorem AmO_succ (k j : ℕ) : AmO c (k + 1) j = AmO c k (j + 1) + tallyAt (cell (farD c (s7 j)) kMrc) tM NM := rfl

theorem AmO_later (t k j : ℕ) (h : t < tM) : Later t (AmO c k j) := by
  induction k generalizing j with
  | zero => exact Later.zero t
  | succ k ih => exact (ih (j + 1)).add (Later.one _ _ _ _ h (by decide))

def mTok (j : ℕ) : sProp 𝕄 :=
  iprop(dutyTok ER (cell c (kMsn (s7 j))) 0 0 ∗ dutyTok ER (cell (farD c (s7 j)) kMrc) 0 j)

/-- A transfer's claim to its source's return. -/
def mCred (j : ℕ) : sProp 𝕄 := cred (tallyAt (cell c (kMsn (s7 j))) 0 NM)

theorem s7_val (j : ℕ) (hj : j < 7) : (s7 j).val = j := Nat.mod_eq_of_lt hj

theorem msend_wp (j : ℕ) (hj : j < 7) (O : CellTallies nD τ sig ℕ) :
    iprop(ctx X Wt K ∗ maxIs c c (kept j) (told X Wt c) ∗ maxAny (F := F) (farD c (s7 j)) c
        ∗ owe (F := F) c (O + tallyAt (cell (farD c (s7 j)) kMrc) tM NM) ∗ mTok (F := F) c j)
      ⊢ WP c (msendP c (s7 j)) fun _ => iprop(maxIs c c (kept (j + 1)) (told X Wt c) ∗ owe (F := F) c O ∗ mCred (F := F) c j) := by
  have hb : backD (farD c (s7 j)) (s7 j) = c := back_far c (s7 j)
  unfold mTok maxAny mCred
  iintro ⟨#HC, Hm, ⟨%v, Hd⟩, HO, ⟨Ht1, Ht2⟩⟩
  ihave Hm2 := (max_halves c c (kept j) (told X Wt c)) $$ Hm
  icases Hm2 with ⟨Hl, Hk⟩
  unfold owe msendP Prog.lift
  icases HO with ⟨%W, HO⟩
  ihave Hl := (show maxIs c c (kept j).left (told X Wt c) ⊢ iprop(∃ f, ⌜(ownSlot c).view.read (Elt F) f = told X Wt c⌝
    ∗ (ownSlot c).view.loc (c : Thread nD τ) ↦[(ownSlot c).view.set]{(kept j).left} f) from .rfl) $$ Hl
  icases Hl with ⟨%f, %hf, Hl⟩
  ihave Hd := (show maxIs (farD c (s7 j)) c fullShare v ⊢ iprop(∃ f, ⌜(ownSlot c).view.read (Elt F) f = v⌝
    ∗ (ownSlot c).view.loc (farD c (s7 j) : Thread nD τ) ↦[(ownSlot c).view.set]{fullShare} f) from .rfl) $$ Hd
  icases Hd with ⟨%g, %hg, Hd⟩
  iapply (Rounds.wp_send_pointsTo 𝒱₀ ER (Rd X Wt) (c : Thread nD τ) none (c' := (farD c (s7 j) : Thread nD τ)) (sS := .dma (msendS (s7 j))) (sem := .dma mrecvS)
      (src := ownSlot c) (dst := ownSlot c) (κ₁ := K (c, kMsn (s7 j))) (κ₂ := K (farD c (s7 j), kMrc))
      (r₁ := 0) (r₂ := 0) (d₁ := 0) (d₂ := j) (fs := f) (fd := g) (q := (kept j).left)
      (mem_duty X Wt c (kMsn (s7 j)) 0 rfl)
      (by show j ∈ (Rd X Wt).duties (cell (farD c (s7 j)) kMrc) 0
          rw [duties_cell]; exact Finset.mem_range.mpr hj)
      tM 0 NM rfl (amount_cell X Wt c (kMsn (s7 j)) _ _) (amount_cell X Wt (farD c (s7 j)) kMrc _ _) O rfl
      (by rw [show (Rd X Wt).payload ((c : Thread nD τ), .dma (msendS (s7 j))) 0 0 = maxIs c c (lent (s7 j).val) (told X Wt c) from
            payload_cell X Wt c (kMsn (s7 j)) _ _, s7_val j hj]
          unfold maxIs owns lent
          iintro H; iexists f; isplitr
          · ipureintro; exact hf
          · iexact H)
      (by rw [show (Rd X Wt).payload ((farD c (s7 j) : Thread nD τ), .dma mrecvS) 0 j
              = maxIs (farD c (s7 j)) (backD (farD c (s7 j)) (s7 j)) fullShare (told X Wt (backD (farD c (s7 j)) (s7 j))) from
            payload_cell X Wt (farD c (s7 j)) kMrc _ _, hb]
          unfold maxIs owns
          iintro H
          iexists _; isplitr
          · ipureintro; exact (View.read_write_univ g _).trans hf
          · iexact H)) $$ [HO Ht1 Ht2 Hl Hd]
  · isplitr; · iapply (ctx_inv X Wt K c (kMsn (s7 j))); iexact HC
    isplitr; · iapply (ctx_inv X Wt K (farD c (s7 j)) kMrc); iexact HC
    isplitl [Hl]; · iexact Hl
    isplitl [Hd]; · iexact Hd
    isplitl [HO]; · iexact HO
    isplitl [Ht1]; · iexact Ht1
    isplitr; · iapply (ctx_reached X Wt K c (kMsn (s7 j))); iexact HC
    isplitl [Ht2]; · iexact Ht2
    iapply (ctx_reached X Wt K (farD c (s7 j)) kMrc); iexact HC
  iintro ⟨Hc, HO⟩
  rw [wp_ret]; imodintro
  isplitl [Hk]; · iexact Hk
  isplitl [HO]; · iexists W; iexact HO
  iexact Hc

/-- All seven. -/
theorem msends_wp :
    iprop(ctx X Wt K ∗ maxIs c c fullShare (told X Wt c) ∗ bigSep (Finset.Ico 0 7) (fun j => maxAny (F := F) (farD c (s7 j)) c)
        ∗ owe (F := F) c (AmO c 7 0) ∗ bigSep (Finset.Ico 0 7) (mTok (F := F) c))
      ⊢ WP c (rep (fun j => msendP c (s7 j)) 7 0) fun _ => iprop(maxIs c c (kept 7) (told X Wt c) ∗ owe (F := F) c 0
          ∗ bigSep (Finset.Ico 0 7) (mCred (F := F) c)) := by
  have h := rep_wp c (fun j => msendP c (s7 j)) (fun j => iprop(ctx X Wt K ∗ maxIs c c (kept j) (told X Wt c)
      ∗ bigSep (Finset.Ico j 7) (fun j => maxAny (F := F) (farD c (s7 j)) c)
      ∗ owe (F := F) c (AmO c (7 - j) j) ∗ bigSep (Finset.Ico j 7) (mTok (F := F) c) ∗ bigSep (Finset.Ico 0 j) (mCred (F := F) c))) 7 0
    (fun j _ hj => by
      have hj : j < 7 := by omega
      rw [bigSep_Ico_succ_bot hj, bigSep_Ico_succ_bot hj, bigSep_Ico_succ_top (Nat.zero_le j),
        show 7 - j = (7 - (j + 1)) + 1 from by omega, AmO_succ]
      iintro ⟨#HC, Hm, ⟨Hd, Hds⟩, HO, ⟨Ht, Hts⟩, Hcs⟩
      iapply (fin (msend_wp X Wt K c j hj _)) $$ [Hm Hd HO Ht]
      · isplitr; · iexact HC
        isplitl [Hm]; · iexact Hm
        isplitl [Hd]; · iexact Hd
        isplitl [HO]; · iexact HO
        iexact Ht
      iintro %_ ⟨Hm, HO, Hc⟩
      isplitr; · iexact HC
      isplitl [Hm]; · iexact Hm
      isplitl [Hds]; · iexact Hds
      isplitl [HO]; · iexact HO
      isplitl [Hts]; · iexact Hts
      isplitl [Hc]; · iexact Hc
      iexact Hcs)
  iintro ⟨#HC, Hm, Hds, HO, Hts⟩
  iapply (fin h) $$ [Hm Hds HO Hts]
  · isplitr; · iexact HC
    isplitl [Hm]; · iexact Hm
    isplitl [Hds]; · iexact Hds
    isplitl [HO]; · iexact HO
    isplitl [Hts]; · iexact Hts
    rw [Finset.Ico_self, bigSep_empty]; iempintro
  iintro %_ ⟨-, Hm, -, HO, -, Hcs⟩
  isplitl [Hm]; · iexact Hm
  isplitl [HO]; · iexact HO
  iexact Hcs

/-! ## Receiving the others' -/

/-- The maximum that comes by duty `d`. -/
def mIn (d : ℕ) : sProp 𝕄 := maxIs c (backD c (s7 d)) fullShare (told X Wt (backD c (s7 d)))

/-- After `j` of the seven waits. -/
def mGot (j : ℕ) : sProp 𝕄 :=
  if j < 7 then iprop(∃ T : Finset ℕ, ⌜T ⊆ Finset.range 7⌝ ∗ atPos ER (cell c kMrc) 0 T (j * NM) ∗ bigSep T (mIn X Wt c))
  else iprop(atPos ER (cell c kMrc) 1 ∅ 0 ∗ bigSep (Finset.range 7) (mIn X Wt c))

theorem mrecv_wp (j : ℕ) (hj : j < 7) :
    iprop(ctx X Wt K ∗ cred (tallyAt (cell c kMrc) tM NM) ∗ owe (F := F) c 0 ∗ mGot X Wt c j)
      ⊢ WP c (mrecvP c (s7 j)) fun _ => iprop(owe (F := F) c 0 ∗ mGot X Wt c (j + 1)) := by
  have hd : (Rd X Wt).duties (cell c kMrc) 0 = Finset.range 7 := by rw [duties_cell]; rfl
  have hp : ∀ d, (Rd X Wt).payload (cell c kMrc) 0 d = mIn X Wt c d := fun d => payload_cell X Wt c kMrc 0 d
  have hw : ∀ Q : PUnit → sProp 𝕄, wpE (defs₀ (F := F)) 𝒱₀ (c : Thread nD τ) none Set.univ
      (.waitDma2 mrecvS (farSlot c (s7 j)) (farSlot c (s7 j)) (far_words c (s7 j)) (far_words c (s7 j))) Q
        = waitSpec (c : Thread nD τ) Set.univ (csem kMrc) NM Q := wpE_waitDma2_eq 𝒱₀ (c : Thread nD τ) none Set.univ
  have hjoin : ∀ {S T : Finset ℕ}, T ⊆ S → (iprop(bigSep T (mIn X Wt c) ∗ bigSep (S \ T) (mIn X Wt c)) ⊢ bigSep S (mIn X Wt c)) :=
    fun h => Entails.of_eq (bigSep_sdiff_split h).symm
  unfold mGot owe
  rw [if_pos hj]
  iintro ⟨#HC, Hc, ⟨%W, HO⟩, ⟨%T, %hT, Hat, HT⟩⟩
  unfold mrecvP Prog.lift
  by_cases hj' : j + 1 < 7
  · rw [if_pos hj']
    iapply (Rounds.wp_wait 𝒱₀ ER (Rd X Wt) (c : Thread nD τ) none (sm := csem kMrc) (κ := K (c, kMrc)) (k' := NM) hw
      (Set.mem_univ _) {(csem kMrc, tM)} (cr := Finsupp.single tM NM) (O := 0) (W := W) (R := 0) (m := j * NM) (T := T)
      (by rw [Util.total_single]) (image_single_subset (csem kMrc) tM NM)) $$ [Hc HO Hat]
    · isplitr; · iapply (ctx_inv X Wt K c kMrc); iexact HC
      isplitl [Hc]; · iexact Hc
      isplitl [HO]; · iexact HO
      isplitr; · iapply (ctx_wait X Wt K c (csem kMrc) tM (by decide) 0 (Later.zero _)); iexact HC
      iexact Hat
    iintro %S ⟨%hS, HO, Hat, HS⟩
    rw [wp_ret]; imodintro
    isplitl [HO]; · iexists _; iexact HO
    iexists S
    isplitr; · ipureintro; exact hd ▸ hS.2.1
    isplitl [Hat]
    · rw [show (j + 1) * NM = j * NM + NM from Nat.succ_mul j NM]; iexact Hat
    iapply (hjoin hS.1)
    isplitl [HT]; · iexact HT
    rw [← bigSep_congr fun d _ => hp d]
    iexact HS
  · rw [if_neg hj']
    iapply (Rounds.wp_wait_rest_token 𝒱₀ ER (Rd X Wt) (c : Thread nD τ) none (sm := csem kMrc) (κ := K (c, kMrc)) hw
      (Set.mem_univ _) tM (O := 0) (W := W) (R := 0) (m := j * NM) (T := T)
      (by rw [show ((c : Thread nD τ), csem kMrc) = cell c kMrc from rfl, expect_cell]
          show j * NM + NM = (Finset.range 7).card * NM
          rw [Finset.card_range, ← Nat.succ_mul, show j.succ = 7 from by omega])) $$ [Hc HO Hat]
    · isplitr; · iapply (ctx_inv X Wt K c kMrc); iexact HC
      isplitl [Hc]; · iexact Hc
      isplitl [HO]; · iexact HO
      isplitr; · iapply (ctx_wait X Wt K c (csem kMrc) tM (by decide) 0 (Later.zero _)); iexact HC
      iexact Hat
    iintro ⟨HO, Hat, -, HS⟩
    rw [wp_ret]; imodintro
    isplitl [HO]; · iexists _; iexact HO
    isplitl [Hat]; · iexact Hat
    iapply (hjoin hT)
    isplitl [HT]; · iexact HT
    rw [← bigSep_congr fun d _ => hp d, ← hd]
    iexact HS

theorem mrecvs_wp :
    iprop(ctx X Wt K ∗ bigSep (Finset.Ico 0 7) (fun _ => (cred (tallyAt (cell c kMrc) tM NM) : sProp 𝕄)) ∗ owe (F := F) c 0
        ∗ atPos ER (cell c kMrc) 0 ∅ 0)
      ⊢ WP c (rep (fun j => mrecvP c (s7 j)) 7 0) fun _ => iprop(owe (F := F) c 0 ∗ atPos ER (cell c kMrc) 1 ∅ 0
          ∗ bigSep (Finset.range 7) (mIn X Wt c)) := by
  have h := rep_wp c (fun j => mrecvP c (s7 j)) (fun j => iprop(ctx X Wt K
      ∗ bigSep (Finset.Ico j 7) (fun _ => (cred (tallyAt (cell c kMrc) tM NM) : sProp 𝕄)) ∗ owe (F := F) c 0 ∗ mGot X Wt c j)) 7 0
    (fun j _ hj => by
      have hj : j < 7 := by omega
      rw [bigSep_Ico_succ_bot hj]
      iintro ⟨#HC, ⟨Hc, Hcs⟩, HO, Hg⟩
      iapply (fin (mrecv_wp X Wt K c j hj)) $$ [Hc HO Hg]
      · isplitr; · iexact HC
        isplitl [Hc]; · iexact Hc
        isplitl [HO]; · iexact HO
        iexact Hg
      iintro %_ ⟨HO, Hg⟩
      isplitr; · iexact HC
      isplitl [Hcs]; · iexact Hcs
      isplitl [HO]; · iexact HO
      iexact Hg)
  have h0 : mGot X Wt c 0 = iprop(∃ T : Finset ℕ, ⌜T ⊆ Finset.range 7⌝ ∗ atPos ER (cell c kMrc) 0 T (0 * NM) ∗ bigSep T (mIn X Wt c)) :=
    if_pos (by decide)
  have h7 : mGot X Wt c (0 + 7) = iprop(atPos ER (cell c kMrc) 1 ∅ 0 ∗ bigSep (Finset.range 7) (mIn X Wt c)) :=
    if_neg (by decide)
  rw [h0, h7] at h
  iintro ⟨#HC, Hcs, HO, Hat⟩
  iapply (fin h) $$ [Hcs HO Hat]
  · isplitr; · iexact HC
    isplitl [Hcs]; · iexact Hcs
    isplitl [HO]; · iexact HO
    iexists ∅
    isplitr; · ipureintro; exact Finset.empty_subset _
    isplitl [Hat]; · rw [Nat.zero_mul]; iexact Hat
    rw [bigSep_empty]; iempintro
  iintro %_ ⟨-, -, HO, Hat, Hin⟩
  isplitl [HO]; · iexact HO
  isplitl [Hat]; · iexact Hat
  iexact Hin

/-! ## Its source back -/

theorem msents_wp :
    iprop(ctx X Wt K ∗ bigSep (Finset.Ico 0 7) (mCred (F := F) c) ∗ owe (F := F) c 0
        ∗ bigSep (Finset.Ico 0 7) (fun j => atPos ER (cell c (kMsn (s7 j))) 0 ∅ 0))
      ⊢ WP c (rep (fun j => msentP c (s7 j)) 7 0) fun _ => iprop(owe (F := F) c 0
          ∗ bigSep (Finset.Ico 0 7) (fun j => atPos ER (cell c (kMsn (s7 j))) 1 ∅ 0)
          ∗ bigSep (Finset.Ico 0 7) (fun j => maxIs c c (lent j) (told X Wt c))) := by
  have h := rep_wp c (fun j => msentP c (s7 j)) (fun j => iprop(ctx X Wt K
      ∗ bigSep (Finset.Ico j 7) (mCred (F := F) c) ∗ owe (F := F) c 0
      ∗ bigSep (Finset.Ico j 7) (fun j => atPos ER (cell c (kMsn (s7 j))) 0 ∅ 0)
      ∗ bigSep (Finset.Ico 0 j) (fun j => atPos ER (cell c (kMsn (s7 j))) 1 ∅ 0)
      ∗ bigSep (Finset.Ico 0 j) (fun j => maxIs c c (lent j) (told X Wt c)))) 7 0
    (fun j _ hj => by
      have hj : j < 7 := by omega
      rw [bigSep_Ico_succ_bot hj, bigSep_Ico_succ_bot hj, bigSep_Ico_succ_top (Nat.zero_le j), bigSep_Ico_succ_top (Nat.zero_le j)]
      iintro ⟨#HC, ⟨Hc, Hcs⟩, HO, ⟨Hp, Hps⟩, Hqs, Hls⟩
      have hw := wait_wp X Wt K c (kMsn (s7 j)) (.waitDma2 (msendS (s7 j)) (ownSlot c) (ownSlot c) (own_words c) (own_words c))
        (wpE_waitDma2_eq 𝒱₀ (c : Thread nD τ) none Set.univ) 0 rfl 0 (by decide) 0 (Later.zero _)
      rw [show (amountOf (kMsn (s7 j))) = NM from rfl, show payloadOf X Wt c (kMsn (s7 j)) 0 0 = maxIs c c (lent (s7 j).val) (told X Wt c) from rfl, s7_val j hj] at hw
      unfold mCred
      iapply (fin hw) $$ [Hc HO Hp]
      · isplitr; · iexact HC
        isplitl [Hc]; · iexact Hc
        isplitl [HO]; · iexact HO
        iexact Hp
      iintro %_ ⟨HO, Hp, -, Hl⟩
      isplitr; · iexact HC
      isplitl [Hcs]; · iexact Hcs
      isplitl [HO]; · iexact HO
      isplitl [Hps]; · iexact Hps
      isplitl [Hp Hqs]
      · isplitl [Hp]; · iexact Hp
        iexact Hqs
      isplitl [Hl]; · iexact Hl
      iexact Hls)
  iintro ⟨#HC, Hcs, HO, Hps⟩
  iapply (fin h) $$ [Hcs HO Hps]
  · isplitr; · iexact HC
    isplitl [Hcs]; · iexact Hcs
    isplitl [HO]; · iexact HO
    isplitl [Hps]; · iexact Hps
    rw [Finset.Ico_self, bigSep_empty, bigSep_empty]
    isplitr <;> iempintro
  iintro %_ ⟨-, -, HO, -, Hqs, Hls⟩
  isplitl [HO]; · iexact HO
  isplitl [Hqs]; · iexact Hqs
  iexact Hls

theorem max_join (o : Dev nD) (q : PosShare TreeShare) (v : Vec F S8x128 .f32) :
    iprop(maxIs c o q.left v ∗ maxIs c o q.right v) ⊢ maxIs c o q v :=
  (owns_halves (c : Thread nD τ) (ownSlot o) q v).2

/-- The lent shares and what was kept are the whole. -/
theorem lent_join (v : Vec F S8x128 .f32) (j : ℕ) :
    iprop(bigSep (Finset.Ico 0 j) (fun j => maxIs c c (lent j) v) ∗ maxIs c c (kept j) v) ⊢ maxIs c c fullShare v := by
  induction j with
  | zero => iintro ⟨-, H⟩; iexact H
  | succ j ih =>
    rw [bigSep_Ico_succ_top (Nat.zero_le j)]
    iintro ⟨⟨Hl, Hls⟩, Hk⟩
    iapply ih
    isplitl [Hls]; · iexact Hls
    iapply (max_join c c (kept j) v)
    isplitl [Hl]; · iexact Hl
    iexact Hk

/-! ## All eight slots as one buffer -/

theorem numel_8 : S1x8x128.numel = S8x128.numel := by decide

theorem at_to_slot (o : Dev nD) (v : Vec F S8x128 .f32) :
    maxIs c o fullShare v ⊢ owns (c : Thread nD τ) (maxRef.slice (mSlot o) (fun _ => rfl)) fullShare
      (fun i => v (Shape.reshapeEquiv numel_8 i)) := by
  have e : k0_off3 o = ![o.val, 0, 0] := funext fun a => off3_eq o a
  have h : ∀ (f : Fin 3 → ℕ) (p : ∀ a, f a + S1x8x128.size a ≤ S8x8x128.size a) (_ : f = ![o.val, 0, 0]),
      (owns (c : Thread nD τ) (mAt f p) fullShare v : sProp 𝕄) ⊢ owns (c : Thread nD τ) (maxRef.slice (mSlot o) (fun _ => rfl)) fullShare
        (fun i => v (Shape.reshapeEquiv numel_8 i)) := by
    intro f p hf
    subst hf
    unfold owns
    rw [show (mAt ![o.val, 0, 0] p).view.set = (maxRef.slice (mSlot o) (fun _ => rfl)).view.set from View.set_reshape _ _]
    iintro ⟨%g, %hg, H⟩
    iexists g
    isplitr
    · ipureintro
      rw [← hg]
      funext i
      show _ = (maxRef.slice (mSlot o) (fun _ => rfl)).view.read (Elt F) g (Shape.reshapeEquiv _ (Shape.reshapeEquiv numel_8 i))
      rw [Shape.reshapeEquiv_reshapeEquiv, Shape.reshapeEquiv_self]
    · iexact H
  exact h _ (k0_off3_inb o) e

theorem slot_to_at (o : Dev nD) (v : Vec F S1x8x128 .f32) :
    owns (c : Thread nD τ) (maxRef.slice (mSlot o) (fun _ => rfl)) fullShare v ⊢ maxAny (F := F) c o := by
  have e : k0_off3 o = ![o.val, 0, 0] := funext fun a => off3_eq o a
  have h : ∀ (f : Fin 3 → ℕ) (p : ∀ a, f a + S1x8x128.size a ≤ S8x8x128.size a) (_ : f = ![o.val, 0, 0]),
      (owns (c : Thread nD τ) (maxRef.slice (mSlot o) (fun _ => rfl)) fullShare v : sProp 𝕄) ⊢ iprop(∃ w, owns (c : Thread nD τ) (mAt f p) fullShare w) := by
    intro f p hf
    subst hf
    unfold owns
    rw [show (mAt ![o.val, 0, 0] p).view.set = (maxRef.slice (mSlot o) (fun _ => rfl)).view.set from View.set_reshape _ _]
    iintro ⟨%g, %hg, H⟩
    iexists _
    iexists g
    isplitr
    · ipureintro; rfl
    · iexact H
  exact h _ (k0_off3_inb o) e

theorem mSlot_disj (o o' : Fin 8) (h : o ≠ o') : Disjoint (mSlot o).set (mSlot o').set := by
  rw [Finset.disjoint_left]
  intro i hi hi'
  rw [Rect.mem_set_unit] at hi hi'
  have h1 := hi 0
  have h2 := hi' 0
  simp at h1 h2
  exact h (Fin.ext (by omega))

theorem mSlot_cov : (Finset.univ : Finset (Fin 8)).biUnion (fun o => (mSlot o).set) = Finset.univ := by
  ext i
  simp only [Finset.mem_biUnion, Finset.mem_univ, true_and, iff_true]
  refine ⟨i 0, ?_⟩
  rw [Rect.mem_set_unit]
  intro a
  fin_cases a
  · exact ⟨le_rfl, Nat.lt_succ_self _⟩
  · exact ⟨Nat.zero_le _, by have := (i 1).isLt; simpa using this⟩
  · exact ⟨Nat.zero_le _, by have := (i 2).isLt; simpa using this⟩

/-- Numbers, one per device, as they lie in the buffer in the end. -/
def mLaid (p : Dev nD → F .f32) : Vec F S8x8x128 .f32 := fun i => p (i 0)

/-- All the devices' maxima. -/
def mAll : Vec F S8x8x128 .f32 := mLaid fun o => peak X Wt o 8

theorem mslots_split (v : Vec F S8x8x128 .f32) :
    (owns (c : Thread nD τ) maxRef fullShare v : sProp 𝕄) ⊢ bigSep Finset.univ fun o : Dev nD => maxAny (F := F) c o :=
  (owns_rects (c : Thread nD τ) maxRef fullShare mSlot (fun _ _ => rfl) mSlot_disj mSlot_cov v).trans
    (bigSep_mono fun o _ => slot_to_at c o _)

theorem laid_slot (p : Dev nD → F .f32) (o : Dev nD) :
    (fun i => (broadcast S8x128 (p o) : Vec F S8x128 .f32) (Shape.reshapeEquiv numel_8 i)) = fun j => mLaid p ((mSlot o).emb j) := by
  funext j
  show p o = p _
  congr 1
  apply Fin.ext
  have hj : (j 0).val < 1 := (j 0).isLt
  show o.val = o.val + 1 * (j 0).val
  omega

theorem mslots_join (p : Dev nD → F .f32) :
    (bigSep Finset.univ fun o : Dev nD => maxIs c o fullShare (broadcast S8x128 (p o))) ⊢ (owns (c : Thread nD τ) maxRef fullShare (mLaid p) : sProp 𝕄) := by
  refine BIBase.Entails.trans (bigSep_mono fun o _ => ?_)
    (owns_of_rects (c : Thread nD τ) maxRef fullShare mSlot (fun _ _ => rfl) mSlot_disj mSlot_cov (mLaid p))
  rw [← laid_slot]
  exact at_to_slot c o _

/-- The others' maxima and the device's own are all of them. -/
theorem back_ne (d : Dev nD) : ∀ j : Fin 7, backD d j ≠ d := by revert d; decide
theorem back_inj (d : Dev nD) : Function.Injective (backD d) := by
  revert d; decide
theorem back_all (d : Dev nD) : (Finset.univ : Finset (Dev nD)).erase d = Finset.univ.map ⟨backD d, back_inj d⟩ := by
  revert d; decide

theorem fin_range (n : ℕ) (Φ : ℕ → sProp 𝕄) : bigSep (Finset.univ : Finset (Fin n)) (fun i => Φ i.val) = bigSep (Finset.range n) Φ := by
  have e : Finset.range n = (Finset.univ : Finset (Fin n)).map Fin.valEmbedding := by
    ext i
    simp only [Finset.mem_range, Finset.mem_map, Finset.mem_univ, Fin.valEmbedding_apply, true_and]
    exact ⟨fun h => ⟨⟨i, h⟩, rfl⟩, fun ⟨j, hj⟩ => hj ▸ j.isLt⟩
  rw [e, bigSep_map]; rfl

theorem s7_fin (j : Fin 7) : s7 j.val = j := Fin.ext (Nat.mod_eq_of_lt j.isLt)

theorem mall_join :
    iprop(bigSep (Finset.range 7) (mIn X Wt c) ∗ maxIs c c fullShare (told X Wt c)) ⊢ (owns (c : Thread nD τ) maxRef fullShare (mAll X Wt) : sProp 𝕄) := by
  refine BIBase.Entails.trans ?_ (mslots_join c fun o => peak X Wt o 8)
  show _ ⊢ bigSep Finset.univ fun o : Dev nD => maxIs c o fullShare (told X Wt o)
  rw [bigSep_univ_split c, back_all, bigSep_map, ← fin_range, bigSep_congr (Φ := fun j : Fin 7 => mIn X Wt c j.val)
    (Ψ := fun j => maxIs c (backD c j) fullShare (told X Wt (backD c j))) fun j _ => by unfold mIn; rw [s7_fin]]
  iintro ⟨H1, H2⟩
  iapply (show iprop(maxIs c c fullShare (told X Wt c) ∗ bigSep Finset.univ fun j => maxIs c (backD c j) fullShare (told X Wt (backD c j))) ⊢ _ from .rfl)
  isplitl [H2]; · iexact H2
  iexact H1

/-- Reading the whole buffer. -/
theorem mall_wp (v : Vec F S8x8x128 .f32) (h : maxRef.view.LoadsAt (Rect.unit (s := S8x8x128) ![0, 0, 0] S8x8x128.size inb_S8x8x128_S8x8x128_0_0_0).toLoadRect) :
    (owns (c : Thread nD τ) maxRef fullShare v : sProp 𝕄)
      ⊢ WP c (Prog.lift (.load maxRef (Rect.unit (s := S8x8x128) ![0, 0, 0] S8x8x128.size inb_S8x8x128_S8x8x128_0_0_0).toLoadRect h))
          fun y => iprop(⌜y = v⌝ ∗ owns (c : Thread nD τ) maxRef fullShare v) := by
  unfold owns
  simp only [Prog.lift]
  iintro ⟨%f, %hf, H⟩
  iapply (wp_load 𝒱₀ (c : Thread nD τ) none Set.univ (m := maxRef) (S := maxRef.view.set) (Finset.map_subset_map.mpr (Finset.subset_univ _))) $$ H; iintro H
  rw [wp_ret]; imodintro
  isplitr
  · ipureintro
    rw [← hf]
    funext i
    have e : (Rect.unit (s := S8x8x128) ![0, 0, 0] S8x8x128.size inb_S8x8x128_S8x8x128_0_0_0).toLoadRect.idx i = i := by
      funext a
      apply Fin.ext
      fin_cases a <;> exact (Nat.zero_add _).trans (Nat.one_mul _)
    show maxRef.view.read (Elt F) f _ = _
    exact congrArg _ e
  iexists f
  isplitr; · ipureintro; exact hf
  iexact H

end Cert.KernelIdeal.Hand

end
-- ==== Proof.Loops.lean ====
/- The loops over the streams: the first sends, the relays, the last arrivals, the last sends read off, the quantisation. -/
module

public import proofs.«01_k».proof.Proof.Max

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x512 .bf16) (Wt : Dev nD → Vec F S512x8192 .bf16)
variable (K : Dev nD × Ck → ℕ) (c : Dev nD)

/-! ## What is owed -/

/-- From relay number `n` on for `k` of them: each owes a credit and the next arrival; then the maxima. -/
def RelO : ℕ → ℕ → CellTallies nD τ sig ℕ
  | 0, _ => AmO c 7 0
  | k + 1, n => RelO k (n + 1) + arrOwed c (sq n) (n / 8 + 1) (tR (n + 8)) + crdOwed c (sq n) (tC n)

/-- From first send number `n` on for `k` of them. -/
def FirO : ℕ → ℕ → CellTallies nD τ sig ℕ
  | 0, _ => RelO c 48 0
  | k + 1, n => FirO k (n + 1) + arrOwed c (sq n) 0 (tR n)

/-- At the start. -/
def AllO : CellTallies nD τ sig ℕ :=
  FirO c 8 0 + tallyAt (cell (rightD c) kBar) tB 1 + tallyAt (cell (leftD c) kBar) tB 1

theorem RelO_succ (k n : ℕ) : RelO c (k + 1) n
    = RelO c k (n + 1) + arrOwed c (sq n) (n / 8 + 1) (tR (n + 8)) + crdOwed c (sq n) (tC n) := rfl
theorem FirO_succ (k n : ℕ) : FirO c (k + 1) n = FirO c k (n + 1) + arrOwed c (sq n) 0 (tR n) := rfl

theorem RelO_later (t k n : ℕ) (h : t < tC n) (hk : n + k = 48) (hM : t < tM) : Later t (RelO c k n) := by
  induction k generalizing n with
  | zero => exact AmO_later c t 7 0 hM
  | succ k ih =>
    have h' : t < 3 + 2 * n := h
    rw [RelO_succ]
    refine ((ih (n + 1) ?_ (by omega)).add (Later.one _ _ _ _ ?_ ?_)).add (Later.one _ _ _ _ ?_ ?_)
    · show t < 3 + 2 * (n + 1); omega
    · show t < 2 + 2 * (n + 8); omega
    · show 2 + 2 * (n + 8) < 256; omega
    · show t < 3 + 2 * n; omega
    · show 3 + 2 * n < 256; omega

theorem FirO_later (t k n : ℕ) (h : t < 2) (hk : n + k = 8) : Later t (FirO c k n) := by
  induction k generalizing n with
  | zero => exact RelO_later c t 48 0 (by show t < 3; omega) rfl (by show t < 200; omega)
  | succ k ih =>
    rw [FirO_succ]
    refine (ih (n + 1) (by omega)).add (Later.one _ _ _ _ ?_ ?_)
    · show t < 2 + 2 * n; omega
    · show 2 + 2 * n < 256; omega

/-! ## Streams taking turns -/

/-- One stream's state changes, the others' stay. -/
theorem turn (q : Fin 8) (Φ Ψ : Fin 8 → sProp 𝕄) (h : ∀ q', q' ≠ q → Φ q' = Ψ q') :
    bigSep Finset.univ Φ ⊢ iprop(Φ q ∗ (Ψ q -∗ bigSep Finset.univ Ψ)) := by
  rw [bigSep_univ_split q (Φ := Φ), bigSep_univ_split q (Φ := Ψ), bigSep_congr (s := Finset.univ.erase q)
    fun q' hq => h q' (Finset.ne_of_mem_erase hq)]
  refine sep_mono_right ?_
  iintro H Hq
  iapply (show iprop(Ψ q ∗ bigSep (Finset.univ.erase q) Ψ) ⊢ _ from .rfl)
  isplitl [Hq]; · iexact Hq
  iexact H

theorem sq_val (n : ℕ) (h : n < 8) : (sq n).val = n := Nat.mod_eq_of_lt h
theorem sq_fin (q : Fin 8) : sq q.val = q := Fin.ext (sq_val _ q.isLt)

/-- A state that turns from `A` to `B` stream by stream. -/
def upto (A B : Fin 8 → sProp 𝕄) (n : ℕ) (q : Fin 8) : sProp 𝕄 := if q.val < n then B q else A q

theorem upto_turn (A B : Fin 8 → sProp 𝕄) (n : ℕ) (h : n < 8) :
    bigSep Finset.univ (upto A B n) ⊢ iprop(A (sq n) ∗ (B (sq n) -∗ bigSep Finset.univ (upto A B (n + 1)))) := by
  have hq := sq_val n h
  have h1 : upto A B n (sq n) = A (sq n) := if_neg (by omega)
  have h2 : upto A B (n + 1) (sq n) = B (sq n) := if_pos (by omega)
  have := turn (F := F) (sq n) (upto A B n) (upto A B (n + 1)) (fun q' hne => by
    have hne' : q'.val ≠ n := fun e => hne (Fin.ext (e.trans hq.symm))
    unfold upto
    by_cases hlt : q'.val < n
    · rw [if_pos hlt, if_pos (by omega)]
    · rw [if_neg hlt, if_neg (by omega)])
  rwa [h1, h2] at this

theorem upto_zero (A B : Fin 8 → sProp 𝕄) : upto A B 0 = A := funext fun q => if_neg (Nat.not_lt_zero _)
theorem upto_all (A B : Fin 8 → sProp 𝕄) : upto A B 8 = B := funext fun q => if_pos q.isLt

/-- A state counted by relays. -/
def relAt (n : ℕ) (q : Fin 8) : sProp 𝕄 := stRel (F := F) c q ((n + 7 - q.val) / 8)

theorem relAt_turn (n : ℕ) :
    bigSep Finset.univ (relAt (F := F) c n)
      ⊢ iprop(stRel (F := F) c (sq n) (n / 8) ∗ (stRel (F := F) c (sq n) (n / 8 + 1) -∗ bigSep Finset.univ (relAt (F := F) c (n + 1)))) := by
  have hq : (sq n).val = n % 8 := rfl
  have h1 : relAt (F := F) c n (sq n) = stRel c (sq n) (n / 8) := by
    unfold relAt; rw [hq, show (n + 7 - n % 8) / 8 = n / 8 from by omega]
  have h2 : relAt (F := F) c (n + 1) (sq n) = stRel c (sq n) (n / 8 + 1) := by
    unfold relAt; rw [hq, show (n + 1 + 7 - n % 8) / 8 = n / 8 + 1 from by omega]
  have := turn (F := F) (sq n) (relAt c n) (relAt c (n + 1)) (fun q' hne => by
    have hne' : q'.val ≠ n % 8 := fun e => hne (Fin.ext e)
    have hlt := q'.isLt
    unfold relAt
    rw [show (n + 7 - q'.val) / 8 = (n + 1 + 7 - q'.val) / 8 from by omega])
  rwa [h1, h2] at this

/-! ## The loops -/

theorem firsts_wp :
    iprop(ctx X Wt K ∗ opsIs X Wt c ∗ owe (F := F) c (FirO c 8 0) ∗ bigSep (Finset.Ico 0 8) (fun n => sendTok (F := F) c (sq n) 0)
        ∗ bigSep Finset.univ (stPre (F := F) c))
      ⊢ WP c (rep (fun n => firstP c (sq n)) 8 0) fun _ => iprop(opsIs X Wt c ∗ owe (F := F) c (RelO c 48 0)
          ∗ bigSep Finset.univ (relAt (F := F) c 0)) := by
  have h := rep_wp c (fun n => firstP (F := F) c (sq n)) (fun n => iprop(ctx X Wt K ∗ opsIs X Wt c ∗ owe (F := F) c (FirO c (8 - n) n)
      ∗ bigSep (Finset.Ico n 8) (fun n => sendTok (F := F) c (sq n) 0)
      ∗ bigSep Finset.univ (upto (stPre (F := F) c) (fun q => stRel (F := F) c q 0) n))) 8 0
    (fun n _ hn => by
      have hn : n < 8 := by omega
      rw [bigSep_Ico_succ_bot hn, show 8 - n = (8 - (n + 1)) + 1 from by omega, FirO_succ]
      iintro ⟨#HC, HX, HO, ⟨Ht, Hts⟩, Hst⟩
      ihave Hst := (upto_turn _ _ n hn) $$ Hst
      icases Hst with ⟨Hs, Hback⟩
      iapply (fin (first_wp X Wt K c (sq n) (tR n) _)) $$ [HX HO Ht Hs]
      · isplitr; · iexact HC
        isplitl [HX]; · iexact HX
        isplitl [HO]; · iexact HO
        isplitl [Ht]; · iexact Ht
        iexact Hs
      iintro %_ ⟨HX, HO, Hs⟩
      ihave Hst := Hback $$ Hs
      isplitr; · iexact HC
      isplitl [HX]; · iexact HX
      isplitl [HO]; · iexact HO
      isplitl [Hts]; · iexact Hts
      iexact Hst)
  rw [upto_zero, upto_all] at h
  iintro ⟨#HC, HX, HO, Hts, Hst⟩
  iapply (fin h) $$ [HX HO Hts Hst]
  · isplitr; · iexact HC
    isplitl [HX]; · iexact HX
    isplitl [HO]; · iexact HO
    isplitl [Hts]; · iexact Hts
    iexact Hst
  iintro %_ ⟨-, HX, HO, -, Hst⟩
  isplitl [HX]; · iexact HX
  isplitl [HO]; · iexact HO
  have e : relAt (F := F) c 0 = fun q => stRel (F := F) c q 0 := funext fun q => by
    unfold relAt; rw [show (0 + 7 - q.val) / 8 = 0 from by omega]
  rw [e]
  iexact Hst

/-- What relay number `n` uses up. -/
def relTok (n : ℕ) : sProp 𝕄 :=
  iprop(sendTok (F := F) c (sq n) (n / 8 + 1) ∗ dutyTok ER (cell (upD (sq n) c) (kCrd (sq n))) (n / 8) 0)
def relCred (n : ℕ) : sProp 𝕄 :=
  iprop(cred (tallyAt (cell c (kRcv (sq n) (ob (sb (n / 8))))) (tR n) NB) ∗ cred (tallyAt (cell c (kCrd (sq n))) (tC n) 1))

theorem relays_wp :
    iprop(ctx X Wt K ∗ opsIs X Wt c ∗ owe (F := F) c (RelO c 48 0) ∗ bigSep (Finset.Ico 0 48) (relTok (F := F) c)
        ∗ bigSep (Finset.Ico 0 48) (relCred (F := F) c) ∗ bigSep Finset.univ (relAt (F := F) c 0))
      ⊢ WP c (rep (fun n => relayP c (sq n) (n / 8)) 48 0) fun _ => iprop(opsIs X Wt c ∗ owe (F := F) c (AmO c 7 0)
          ∗ bigSep Finset.univ (fun q => stRel (F := F) c q 6)) := by
  have h := rep_wp c (fun n => relayP (F := F) c (sq n) (n / 8)) (fun n => iprop(ctx X Wt K ∗ opsIs X Wt c ∗ owe (F := F) c (RelO c (48 - n) n)
      ∗ bigSep (Finset.Ico n 48) (relTok (F := F) c) ∗ bigSep (Finset.Ico n 48) (relCred (F := F) c)
      ∗ bigSep Finset.univ (relAt (F := F) c n))) 48 0
    (fun n _ hn => by
      have hn : n < 48 := by omega
      rw [bigSep_Ico_succ_bot hn, bigSep_Ico_succ_bot hn, show 48 - n = (48 - (n + 1)) + 1 from by omega, RelO_succ]
      have et : relTok (F := F) c n = iprop(sendTok (F := F) c (sq n) (n / 8 + 1) ∗ dutyTok ER (cell (upD (sq n) c) (kCrd (sq n))) (n / 8) 0) := rfl
      have ec : relCred (F := F) c n = iprop(cred (tallyAt (cell c (kRcv (sq n) (ob (sb (n / 8))))) (tR n) NB) ∗ cred (tallyAt (cell c (kCrd (sq n))) (tC n) 1)) := rfl
      rw [et, ec]
      iintro ⟨#HC, HX, HO, ⟨Ht, Hts⟩, ⟨Hc, Hcs⟩, Hst⟩
      ihave Hst := (relAt_turn c n) $$ Hst
      icases Hst with ⟨Hs, Hback⟩
      iapply (fin (relay_wp X Wt K c (sq n) (n / 8) (by omega) (tR n) (tC n) (tR (n + 8)) (by show 2 + 2 * n < 3 + 2 * n; omega)
          (by show 3 + 2 * n < 256; omega) (by show 3 + 2 * n < 2 + 2 * (n + 8); omega) (by show 2 + 2 * (n + 8) < 256; omega) _
          (RelO_later c (tC n) (48 - (n + 1)) (n + 1) (by show 3 + 2 * n < 3 + 2 * (n + 1); omega) (by omega) (by show 3 + 2 * n < 200; omega)))) $$ [HX HO Ht Hc Hs]
      · isplitr; · iexact HC
        isplitl [HX]; · iexact HX
        isplitl [HO]; · iexact HO
        isplitl [Ht]; · iexact Ht
        isplitl [Hc]; · iexact Hc
        iexact Hs
      iintro %_ ⟨HX, HO, Hs⟩
      ihave Hst := Hback $$ Hs
      isplitr; · iexact HC
      isplitl [HX]; · iexact HX
      isplitl [HO]; · iexact HO
      isplitl [Hts]; · iexact Hts
      isplitl [Hcs]; · iexact Hcs
      iexact Hst)
  iintro ⟨#HC, HX, HO, Hts, Hcs, Hst⟩
  iapply (fin h) $$ [HX HO Hts Hcs Hst]
  · isplitr; · iexact HC
    isplitl [HX]; · iexact HX
    isplitl [HO]; · iexact HO
    isplitl [Hts]; · iexact Hts
    isplitl [Hcs]; · iexact Hcs
    iexact Hst
  iintro %_ ⟨-, HX, HO, -, -, Hst⟩
  isplitl [HX]; · iexact HX
  isplitl [HO]; · iexact HO
  have e : relAt (F := F) c (0 + 48) = fun q => stRel (F := F) c q 6 := funext fun q => by
    unfold relAt; rw [show (0 + 48 + 7 - q.val) / 8 = 6 from by omega]
  rw [e]
  iexact Hst

/-- What last arrival number `n` uses up. -/
def lastCred (n : ℕ) : sProp 𝕄 := cred (tallyAt (cell c (kRcv (sq n) (ob (sb 6)))) (tR (48 + n)) NB)

theorem lasts_wp :
    iprop(ctx X Wt K ∗ opsIs X Wt c ∗ owe (F := F) c (AmO c 7 0) ∗ bigSep (Finset.Ico 0 8) (lastCred (F := F) c)
        ∗ bigSep Finset.univ (fun q => iprop(stRel (F := F) c q 6 ∗ colAny (F := F) c (tix q))))
      ⊢ WP c (repm (fun n m => lastP c (sq n) m) 8 0 (peak X Wt c 0)) fun m => iprop(⌜m = peak X Wt c 8⌝ ∗ opsIs X Wt c ∗ owe (F := F) c (AmO c 7 0)
          ∗ bigSep Finset.univ (fun q => iprop(stEnd (F := F) c q ∗ colIs c (tix q) (done X Wt c q)))) := by
  have h := repm_wp c (fun n m => lastP (F := F) c (sq n) m) (peak X Wt c) (fun n => iprop(ctx X Wt K ∗ opsIs X Wt c ∗ owe (F := F) c (AmO c 7 0)
      ∗ bigSep (Finset.Ico n 8) (lastCred (F := F) c)
      ∗ bigSep Finset.univ (upto (fun q => iprop(stRel (F := F) c q 6 ∗ colAny (F := F) c (tix q)))
          (fun q => iprop(stEnd (F := F) c q ∗ colIs c (tix q) (done X Wt c q))) n))) 8 0
    (fun n _ hn => by
      have hn : n < 8 := by omega
      rw [bigSep_Ico_succ_bot hn]
      have ec : lastCred (F := F) c n = cred (tallyAt (cell c (kRcv (sq n) (ob (sb 6)))) (tR (48 + n)) NB) := rfl
      rw [ec]
      iintro ⟨#HC, HX, HO, ⟨Hc, Hcs⟩, Hst⟩
      ihave Hst := (upto_turn _ _ n hn) $$ Hst
      icases Hst with ⟨⟨Hs, Hcol⟩, Hback⟩
      iapply (fin (last_wp X Wt K c (sq n) (tR (48 + n)) (by show 2 + 2 * (48 + n) < 256; omega) _
        (AmO_later c _ 7 0 (by show 2 + 2 * (48 + n) < 200; omega)) (peak X Wt c n))) $$ [HX HO Hc Hs Hcol]
      · isplitr; · iexact HC
        isplitl [HX]; · iexact HX
        isplitl [HO]; · iexact HO
        isplitl [Hc]; · iexact Hc
        isplitl [Hs]; · iexact Hs
        iexact Hcol
      iintro %a ⟨%ha, HX, HO, Hs, Hcol⟩
      ihave Hst := Hback $$ [Hs Hcol]
      · isplitl [Hs]; · iexact Hs
        iexact Hcol
      isplitr; · ipureintro; exact ha
      isplitr; · iexact HC
      isplitl [HX]; · iexact HX
      isplitl [HO]; · iexact HO
      isplitl [Hcs]; · iexact Hcs
      iexact Hst)
  rw [upto_zero, upto_all] at h
  iintro ⟨#HC, HX, HO, Hcs, Hst⟩
  iapply (fin h) $$ [HX HO Hcs Hst]
  · isplitr; · iexact HC
    isplitl [HX]; · iexact HX
    isplitl [HO]; · iexact HO
    isplitl [Hcs]; · iexact Hcs
    iexact Hst
  iintro %m ⟨%hm, -, HX, HO, -, Hst⟩
  isplitr; · ipureintro; exact hm
  isplitl [HX]; · iexact HX
  isplitl [HO]; · iexact HO
  iexact Hst

theorem offs_wp (O : CellTallies nD τ sig ℕ) (hO : Later 0 O) :
    iprop(ctx X Wt K ∗ owe (F := F) c O ∗ bigSep Finset.univ (stEnd (F := F) c))
      ⊢ WP c (rep (fun n => sentP (sq n) 0) 8 0) fun _ => iprop(owe (F := F) c O ∗ bigSep Finset.univ (stFin (F := F) c)) := by
  have h := rep_wp c (fun n => sentP (F := F) (sq n) 0) (fun n => iprop(ctx X Wt K ∗ owe (F := F) c O
      ∗ bigSep Finset.univ (upto (stEnd (F := F) c) (stFin (F := F) c) n))) 8 0
    (fun n _ hn => by
      have hn : n < 8 := by omega
      iintro ⟨#HC, HO, Hst⟩
      ihave Hst := (upto_turn _ _ n hn) $$ Hst
      icases Hst with ⟨Hs, Hback⟩
      iapply (fin (off_wp X Wt K c (sq n) O hO)) $$ [HO Hs]
      · isplitr; · iexact HC
        isplitl [HO]; · iexact HO
        iexact Hs
      iintro %_ ⟨HO, Hs⟩
      ihave Hst := Hback $$ Hs
      isplitr; · iexact HC
      isplitl [HO]; · iexact HO
      iexact Hst)
  rw [upto_zero, upto_all] at h
  iintro ⟨#HC, HO, Hst⟩
  iapply (fin h) $$ [HO Hst]
  · isplitr; · iexact HC
    isplitl [HO]; · iexact HO
    iexact Hst
  iintro %_ ⟨-, HO, Hst⟩
  isplitl [HO]; · iexact HO
  iexact Hst

theorem quants_wp (up down : F .f32) (v : Fin 8 → Vec F S512x1024 .f32) :
    (bigSep Finset.univ fun j => colIs c j (v j))
      ⊢ WP c (rep (fun n => quantP up down (sq n)) 8 0) fun _ => bigSep Finset.univ fun j => colIs c j (quantv up down (v j)) := by
  have h := rep_wp c (fun n => quantP up down (sq n)) (fun n =>
      bigSep Finset.univ (upto (fun j => colIs c j (v j)) (fun j => colIs c j (quantv up down (v j))) n)) 8 0
    (fun n _ hn => by
      have hn : n < 8 := by omega
      iintro Hst
      ihave Hst := (upto_turn _ _ n hn) $$ Hst
      icases Hst with ⟨Hs, Hback⟩
      iapply (fin (quant_wp c up down (sq n) (v (sq n)))) $$ Hs
      iintro %_ Hs
      iapply Hback
      iexact Hs)
  rwa [upto_zero, upto_all] at h

end Cert.KernelIdeal.Hand

end
-- ==== Proof.Meet.lean ====
/- The barrier: what each device hands its neighbours before the first send, and what it has at the end of the streams. -/
module

public import proofs.«01_k».proof.Proof.Loops

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x512 .bf16) (Wt : Dev nD → Vec F S512x8192 .bf16)
variable (K : Dev nD × Ck → ℕ) (c : Dev nD)

/-! ## What a device gives its neighbours at the barrier -/

theorem bar_slot (q : Fin 8) : iprop(reached ER (cell c (kRcv q 1)) 0 ∗ slotAny (F := F) c q 1)
    ⊢ iprop(barSlot (F := F) (leftD c) 0 q ∗ barSlot (F := F) (rightD c) 1 q) := by
  unfold barSlot
  by_cases h : q.val % 2 = 0
  · have e : dn q (leftD c) = c := by unfold dn; rw [if_pos h]; exact right_left c
    rw [if_pos h, if_neg (show ¬ q.val % 2 = 1 by omega), e]
    iintro ⟨#Hr, Hs⟩
    isplitl [Hs]
    · isplitl [Hs]; · iexact Hs
      iexact Hr
    iempintro
  · have e : dn q (rightD c) = c := by unfold dn; rw [if_neg h]; exact left_right c
    rw [if_neg h, if_pos (show q.val % 2 = 1 by omega), e]
    iintro ⟨#Hr, Hs⟩
    isplitr; · iempintro
    isplitl [Hs]; · iexact Hs
    iexact Hr

theorem bar_slots : iprop(ctx X Wt K ∗ bigSep Finset.univ fun q => slotAny (F := F) c q 1)
    ⊢ iprop((bigSep Finset.univ fun q => barSlot (F := F) (leftD c) 0 q) ∗ bigSep Finset.univ fun q => barSlot (F := F) (rightD c) 1 q) := by
  rw [← bigSep_sep']
  refine BI.bigSep_with_persistent fun q _ => ?_
  iintro ⟨#HC, H⟩
  iapply (bar_slot c q)
  isplitr; · iapply (ctx_reached X Wt K c (kRcv q 1)); iexact HC
  iexact H

theorem back_zero (d : Dev nD) : backD d (s7 0) = leftD d := by revert d; decide +kernel
theorem back_step (d : Dev nD) : ∀ k : Fin 6, leftD (backD d (s7 (5 - k.val))) = backD d (s7 (6 - k.val)) := by revert d; decide +kernel

/-- A device's seven slots for the others' maxima, each to go round to the device that writes it. -/
theorem pass_gather (k : ℕ) (hk : k < 7) : bigSep (Finset.Ico (6 - k) 7) (fun j => maxAny (F := F) c (backD c (s7 j)))
    ⊢ pass (F := F) (k + 1) (backD c (s7 (6 - k))) := by
  induction k with
  | zero =>
    rw [pass_succ, bigSep_Ico_succ_bot (show 6 - 0 < 7 by decide), far_back]
    iintro ⟨H, -⟩
    isplitl [H]; · iexact H
    iempintro
  | succ k ih =>
    rw [pass_succ, bigSep_Ico_succ_bot (show 6 - (k + 1) < 7 by omega), far_back, show 6 - (k + 1) + 1 = 6 - k from by omega,
      show 6 - (k + 1) = 5 - k from by omega, back_step c ⟨k, by omega⟩]
    exact sep_mono_right (ih (by omega))

theorem pass_left : bigSep (Finset.Ico 0 7) (fun j => maxAny (F := F) c (backD c (s7 j))) ⊢ pass (F := F) 7 (leftD c) := by
  have h := pass_gather (F := F) c 6 (by decide)
  rwa [show 6 - 6 = 0 from rfl, back_zero] at h

/-! ## The barrier -/

/-- A signal to a neighbour's barrier cell. -/
theorem bar_signal_wp (o : Dev nD) (d : ℕ) (hd : d ∈ ({0, 1} : Finset ℕ)) (O : CellTallies nD τ sig ℕ) :
    iprop(ctx X Wt K ∗ owe (F := F) c (O + tallyAt (cell o kBar) tB 1) ∗ dutyTok ER (cell o kBar) 0 d ∗ barPay (F := F) o d)
      ⊢ WP c (semSignalWord o barS 1#32) fun _ => owe (F := F) c O := by
  unfold owe
  iintro ⟨#HC, ⟨%W, HO⟩, Ht, Hp⟩
  simp only [semSignalWord, Prog.lift]
  iapply (Rounds.wp_signal 𝒱₀ ER (Rd X Wt) (c : Thread nD τ) none (dst := (o : Thread nD τ)) (sem := barS) (κ := K (o, kBar))
      (r := 0) (d := d) (by rw [show (Rd X Wt).duties ((o : Thread nD τ), .reg barS) 0 = {0, 1} from duties_cell X Wt o kBar 0]; exact hd)
      (amount_cell X Wt o kBar 0 d) tB O rfl) $$ [HO Ht Hp]
  · isplitr; · iapply (ctx_inv X Wt K o kBar); iexact HC
    isplitl [HO]; · iexact HO
    isplitl [Ht]; · iexact Ht
    isplitl [Hp]
    · rw [show (Rd X Wt).payload ((o : Thread nD τ), .reg barS) 0 d = barPay (F := F) o d from payload_cell X Wt o kBar 0 d]
      iexact Hp
    iapply (ctx_reached X Wt K o kBar); iexact HC
  iintro HO
  rw [wp_ret]; imodintro
  iexists W; iexact HO

/-- The wait for both neighbours. -/
theorem bar_wait_wp (O : CellTallies nD τ sig ℕ) (hO : Later tB O) :
    iprop(ctx X Wt K ∗ cred (tallyAt (cell c kBar) tB 2) ∗ owe (F := F) c O ∗ atPos ER (cell c kBar) 0 ∅ 0)
      ⊢ WP c (semWaitWord barS 2#32) fun _ => iprop(owe (F := F) c O ∗ atPos ER (cell c kBar) 1 ∅ 0
          ∗ barPay (F := F) c 0 ∗ barPay (F := F) c 1) := by
  have hr : bigSep ((Rd X Wt).duties (cell c kBar) 0 \ ∅) (fun d => (Rd X Wt).payload (cell c kBar) 0 d)
      = iprop(barPay (F := F) c 0 ∗ barPay (F := F) c 1) := by
    rw [Finset.sdiff_empty, duties_cell, show dutiesOf kBar 0 = insert 0 {1} from rfl, bigSep_insert (by decide), bigSep_singleton,
      payload_cell, payload_cell]
    rfl
  have hw : ∀ Q : PUnit → sProp 𝕄, wpE (defs₀ (F := F)) 𝒱₀ (c : Thread nD τ) none Set.univ (.semWait barS 2) Q
      = waitSpec (c : Thread nD τ) Set.univ (csem kBar) 2 Q := wpE_semWait_eq 𝒱₀ (c : Thread nD τ) none Set.univ
  unfold owe
  iintro ⟨#HC, Hc, ⟨%W, HO⟩, Hat⟩
  simp only [semWaitWord, Prog.lift]
  iapply (Rounds.wp_wait_rest_token 𝒱₀ ER (Rd X Wt) (c : Thread nD τ) none (κ := K (c, kBar)) hw (Set.mem_univ _) tB (O := O) (W := W)
      (R := 0) (m := 0) (T := ∅) (by rw [expect_cell]; rfl)) $$ [Hc HO Hat]
  · isplitr; · iapply (ctx_inv X Wt K c kBar); iexact HC
    isplitl [Hc]; · iexact Hc
    isplitl [HO]; · iexact HO
    isplitr; · iapply (ctx_wait X Wt K c (csem kBar) tB (by decide) O hO); iexact HC
    iexact Hat
  iintro ⟨HO, Hat, -, Hp⟩
  ihave Hp' := (Entails.of_eq hr) $$ Hp
  rw [wp_ret]; imodintro
  isplitl [HO]; · iexists _; iexact HO
  isplitl [Hat]; · iexact Hat
  iexact Hp'

/-! ## What it has from them -/

theorem bar_have (q : Fin 8) : iprop(barSlot (F := F) c 0 q ∗ barSlot (F := F) c 1 q)
    ⊢ iprop(slotAny (F := F) (dn q c) q 1 ∗ reached ER (cell (dn q c) (kRcv q 1)) 0) := by
  unfold barSlot
  by_cases h : q.val % 2 = 0
  · rw [if_pos h, if_neg (show ¬ q.val % 2 = 1 by omega)]
    iintro ⟨H, -⟩; iexact H
  · rw [if_neg h, if_pos (show q.val % 2 = 1 by omega)]
    iintro ⟨-, H⟩; iexact H

/-- Every position of a stream's five cells. -/
def posQ (q : Fin 8) (a b d e f : ℕ) : sProp 𝕄 :=
  iprop(atPos ER (cell c (kSnd q 0)) a ∅ 0 ∗ atPos ER (cell c (kSnd q 1)) b ∅ 0
    ∗ atPos ER (cell c (kRcv q 0)) d ∅ 0 ∗ atPos ER (cell c (kRcv q 1)) e ∅ 0 ∗ atPos ER (cell c (kCrd q)) f ∅ 0)

/-- What is held with stream 0 is held. -/
theorem hold_all (s : ℕ) : (bigSep Finset.univ fun q => holdQ (F := F) c q s) ⊢ hold (F := F) c s := by
  rw [bigSep_univ_split (0 : Fin 8)]
  refine BIBase.Entails.trans (Q := iprop(holdQ (F := F) c 0 s ∗ bigSep (Finset.univ.erase (0 : Fin 8)) fun q => holdQ (F := F) c q s)) .rfl ?_
  rw [show holdQ (F := F) c 0 s = hold (F := F) c s from rfl]
  iintro ⟨H, -⟩
  iexact H

theorem all_hold (s : ℕ) : hold (F := F) c s ⊢ bigSep Finset.univ fun q => holdQ (F := F) c q s := by
  rw [bigSep_univ_split (0 : Fin 8)]
  refine BIBase.Entails.trans (Q := iprop(hold (F := F) c s ∗ bigSep (Finset.univ.erase (0 : Fin 8)) fun q => holdQ (F := F) c q s)) ?_ .rfl
  iintro H
  isplitl [H]; · iexact H
  iapply (BI.bigSep_intro_persistent (R := iprop(emp)) fun q hq => by
    unfold holdQ
    rw [if_neg (show ¬ q.val = 0 from fun e => Finset.ne_of_mem_erase hq (Fin.ext e))])
  iempintro

/-- Everything a stream starts with. -/
theorem pre_one (q : Fin 8) :
    iprop((barSlot (F := F) c 0 q ∗ barSlot (F := F) c 1 q) ∗ slotAny (F := F) c q 0 ∗ posQ (F := F) c q 0 0 0 0 0 ∗ holdQ (F := F) c q 0)
      ⊢ stPre (F := F) c q := by
  unfold posQ stPre
  iintro ⟨Hb, Hs, ⟨H1, H2, H3, H4, H5⟩, Hh⟩
  isplitl [Hs]; · iexact Hs
  isplitl [Hb]; · iapply (bar_have c q); iexact Hb
  isplitl [H1]; · iexact H1
  isplitl [H2]; · iexact H2
  isplitl [H3]; · iexact H3
  isplitl [H4]; · iexact H4
  isplitl [H5]; · iexact H5
  iexact Hh

theorem pre_intro :
    iprop((barPay (F := F) c 0 ∗ barPay (F := F) c 1) ∗ (bigSep Finset.univ fun q => slotAny (F := F) c q 0)
        ∗ bigSep Finset.univ fun q => posQ (F := F) c q 0 0 0 0 0)
      ⊢ bigSep Finset.univ (stPre (F := F) c) := by
  have h : iprop((bigSep Finset.univ fun q => iprop(barSlot (F := F) c 0 q ∗ barSlot (F := F) c 1 q))
      ∗ (bigSep Finset.univ fun q => slotAny (F := F) c q 0) ∗ (bigSep Finset.univ fun q => posQ (F := F) c q 0 0 0 0 0)
      ∗ (bigSep Finset.univ fun q => holdQ (F := F) c q 0)) ⊢ bigSep Finset.univ (stPre (F := F) c) := by
    rw [← bigSep_sep', ← bigSep_sep', ← bigSep_sep']
    exact bigSep_mono fun q _ => pre_one c q
  unfold barPay
  rw [if_pos rfl, if_neg (by decide : ¬ (1 : ℕ) = 0)]
  iintro ⟨⟨⟨Hb0, Hp⟩, ⟨Hb1, -⟩⟩, Hs, Hq⟩
  iapply h
  isplitl [Hb0 Hb1]
  · rw [bigSep_sep']
    isplitl [Hb0]; · iexact Hb0
    iexact Hb1
  isplitl [Hs]; · iexact Hs
  isplitl [Hq]; · iexact Hq
  iapply (all_hold c 0)
  unfold hold
  isplitr
  · unfold coll; iempintro
  iexact Hp

/-- The slots collected for the device's own maximum. -/
theorem coll_all (s : ℕ) : coll (F := F) c s ⊢ bigSep (Finset.Ico 0 s) fun j => maxAny (F := F) (farD c (s7 j)) c := by
  induction s with
  | zero => rw [Finset.Ico_self, bigSep_empty]; unfold coll; exact .rfl
  | succ s ih => rw [coll_succ, bigSep_Ico_succ_top (Nat.zero_le s)]; exact (sep_mono_left ih).trans sep_comm

theorem hold_out : hold (F := F) c 6 ⊢ bigSep (Finset.Ico 0 7) fun j => maxAny (F := F) (farD c (s7 j)) c := by
  refine BIBase.Entails.trans ?_ (coll_all c 7)
  unfold hold
  rw [show coll (F := F) c 7 = iprop(coll (F := F) c 6 ∗ maxAny (F := F) (farD c (s7 6)) c) from rfl, show 7 - 6 = 0 + 1 from rfl, pass_succ]
  iintro ⟨Hc, H, -⟩
  isplitl [Hc]; · iexact Hc
  iexact H

/-- What the streams end with. -/
theorem fin_elim : bigSep Finset.univ (stFin (F := F) c)
    ⊢ iprop((bigSep Finset.univ fun q => iprop(slotAny (F := F) c q 0 ∗ slotAny (F := F) c q 1))
        ∗ (bigSep Finset.univ fun q => posQ (F := F) c q 4 3 3 4 6)
        ∗ bigSep (Finset.Ico 0 7) fun j => maxAny (F := F) (farD c (s7 j)) c) := by
  have h : bigSep Finset.univ (stFin (F := F) c) = iprop((bigSep Finset.univ fun q => iprop(slotAny (F := F) c q 0 ∗ slotAny (F := F) c q 1))
        ∗ (bigSep Finset.univ fun q => posQ (F := F) c q 4 3 3 4 6) ∗ bigSep Finset.univ fun q => holdQ (F := F) c q 6) := by
    rw [← bigSep_sep', ← bigSep_sep']; rfl
  rw [h]
  iintro ⟨H1, H2, H3⟩
  isplitl [H1]; · iexact H1
  isplitl [H2]; · iexact H2
  iapply (hold_out c)
  iapply (hold_all c 6)
  iexact H3

end Cert.KernelIdeal.Hand

end
-- ==== Proof.Whole.lean ====
/- The whole body of the kernel, from what a device starts with to what it ends with. -/
module

public import proofs.«01_k».proof.Proof.Meet

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x512 .bf16) (Wt : Dev nD → Vec F S512x8192 .bf16)
variable (K : Dev nD × Ck → ℕ) (c : Dev nD)

/-! ## What a device starts and ends with -/

/-- Its tokens: for the two barrier signals, the sends with their credits, and the maxima. -/
def toksR : sProp 𝕄 :=
  iprop((dutyTok ER (cell (leftD c) kBar) 0 0 ∗ dutyTok ER (cell (rightD c) kBar) 0 1)
    ∗ (bigSep (Finset.Ico 0 8) fun n => sendTok (F := F) c (sq n) 0) ∗ bigSep (Finset.Ico 0 48) (relTok (F := F) c)
    ∗ bigSep (Finset.Ico 0 7) (mTok (F := F) c))

/-- What it is to be given. -/
def credsR : sProp 𝕄 :=
  iprop(cred (tallyAt (cell c kBar) tB 2) ∗ bigSep (Finset.Ico 0 48) (relCred (F := F) c) ∗ bigSep (Finset.Ico 0 8) (lastCred (F := F) c)
    ∗ bigSep (Finset.Ico 0 7) fun _ => (cred (tallyAt (cell c kMrc) tM NM) : sProp 𝕄))

/-- Where it is on its own cells: the barrier's and the maxima's at `n`, the streams' as given. -/
def posR (n a b d e f : ℕ) : sProp 𝕄 :=
  iprop(atPos ER (cell c kBar) n ∅ 0 ∗ (bigSep Finset.univ fun q => posQ (F := F) c q a b d e f) ∗ atPos ER (cell c kMrc) n ∅ 0
    ∗ bigSep (Finset.Ico 0 7) fun j => atPos ER (cell c (kMsn (s7 j))) n ∅ 0)

/-- Its buffers at the start. -/
def bufsR : sProp 𝕄 :=
  iprop((bigSep Finset.univ fun q => slotAny (F := F) c q 0) ∗ (bigSep Finset.univ fun q => slotAny (F := F) c q 1)
    ∗ (bigSep Finset.univ fun o => maxAny (F := F) c o) ∗ bigSep Finset.univ fun j => colAny (F := F) c j)

theorem max_out : (bigSep Finset.univ fun o => maxAny (F := F) c o)
    ⊢ iprop(maxAny (F := F) c c ∗ bigSep (Finset.Ico 0 7) fun j => maxAny (F := F) c (backD c (s7 j))) := by
  rw [bigSep_univ_split c, back_all, bigSep_map, ← Finset.range_eq_Ico, ← fin_range 7 fun j => maxAny (F := F) c (backD c (s7 j)),
    bigSep_congr (Φ := fun j : Fin 7 => maxAny (F := F) c (backD c (s7 j.val))) (Ψ := fun j => maxAny (F := F) c (backD c j))
      fun j _ => by rw [s7_fin]]
  exact .rfl

/-- The stream that fills columns `j`. -/
def qix (j : Fin 8) : Fin 8 := ⟨2 * (j.val % 4) + j.val / 4, by omega⟩

def tixE : Fin 8 ≃ Fin 8 where
  toFun := tix
  invFun := qix
  left_inv := by intro q; revert q; decide
  right_inv := by intro q; revert q; decide

theorem cols_in (Φ : Fin 8 → sProp 𝕄) : bigSep Finset.univ Φ = bigSep Finset.univ fun q => Φ (tix q) :=
  bigSep_univ_equiv tixE Φ

theorem cols_out (v : Fin 8 → Vec F S512x1024 .f32) :
    (bigSep Finset.univ fun q => (colIs c (tix q) (v q) : sProp 𝕄)) = bigSep Finset.univ fun j => colIs c j (v (qix j)) := by
  rw [cols_in fun j => colIs c j (v (qix j))]
  exact bigSep_congr fun q _ => by rw [show qix (tix q) = q from tixE.left_inv q]

/-- The maximum of all, and the result's columns. -/
def gmx : F .f32 := gmaxv (mAll X Wt)
def outv (j : Fin 8) : FVec F S512x1024 .f32 :=
  quantv (Scalar.divf (Scalar.ofBits .f32 0x43E00000#32) (gmx X Wt)) (Scalar.divf (gmx X Wt) (Scalar.ofBits .f32 0x43E00000#32))
    (done X Wt c (qix j))

/-! ## The second half -/

theorem tail_wp (m : F .f32) (hm : m = peak X Wt c 8) :
    iprop(ctx X Wt K ∗ (maxAny (F := F) c c ∗ bigSep (Finset.Ico 0 7) fun j => maxAny (F := F) (farD c (s7 j)) c)
        ∗ owe (F := F) c (AmO c 7 0) ∗ bigSep (Finset.Ico 0 7) (mTok (F := F) c)
        ∗ (bigSep (Finset.Ico 0 7) fun _ => (cred (tallyAt (cell c kMrc) tM NM) : sProp 𝕄))
        ∗ (atPos ER (cell c kMrc) 0 ∅ 0 ∗ bigSep (Finset.Ico 0 7) fun j => atPos ER (cell c (kMsn (s7 j))) 0 ∅ 0)
        ∗ bigSep Finset.univ fun j => colIs c j (done X Wt c (qix j)))
      ⊢ WP c (tailP c m) fun _ => iprop(owe (F := F) c 0
          ∗ (atPos ER (cell c kMrc) 1 ∅ 0 ∗ bigSep (Finset.Ico 0 7) fun j => atPos ER (cell c (kMsn (s7 j))) 1 ∅ 0)
          ∗ owns (c : Thread nD τ) maxRef fullShare (mAll X Wt) ∗ bigSep Finset.univ fun j => colIs c j (outv X Wt c j)) := by
  subst hm
  unfold tailP
  iintro ⟨#HC, ⟨Hm, Hms⟩, HO, Ht, Hc, ⟨Hr, Hs⟩, Hcol⟩
  iapply (seq (mput_wp c (peak X Wt c 8))) $$ Hm
  iintro %_ Hm
  iapply (seq (msends_wp X Wt K c)) $$ [Hm Hms HO Ht]
  · isplitr; · iexact HC
    isplitl [Hm]; · iexact Hm
    isplitl [Hms]; · iexact Hms
    isplitl [HO]; · iexact HO
    iexact Ht
  iintro %_ ⟨Hm, HO, Hmc⟩
  iapply (seq (mrecvs_wp X Wt K c)) $$ [Hc HO Hr]
  · isplitr; · iexact HC
    isplitl [Hc]; · iexact Hc
    isplitl [HO]; · iexact HO
    iexact Hr
  iintro %_ ⟨HO, Hr, Hin⟩
  iapply (seq (msents_wp X Wt K c)) $$ [Hmc HO Hs]
  · isplitr; · iexact HC
    isplitl [Hmc]; · iexact Hmc
    isplitl [HO]; · iexact HO
    iexact Hs
  iintro %_ ⟨HO, Hs, Hl⟩
  ihave Hm := (lent_join c (told X Wt c) 7) $$ [Hl Hm]
  · isplitl [Hl]; · iexact Hl
    iexact Hm
  ihave Hm := (mall_join X Wt c) $$ [Hin Hm]
  · isplitl [Hin]; · iexact Hin
    iexact Hm
  iapply (seq (mall_wp c (mAll X Wt) _)) $$ Hm
  iintro %y ⟨%hy, Hm⟩
  subst hy
  iapply (fin (quants_wp c _ _ fun j => done X Wt c (qix j))) $$ Hcol
  iintro %_ Hcol
  isplitl [HO]; · iexact HO
  isplitl [Hr Hs]
  · isplitl [Hr]; · iexact Hr
    iexact Hs
  isplitl [Hm]; · iexact Hm
  iexact Hcol

/-! ## The body -/

/-- The device's number, and the barrier. -/
theorem enter_wp :
    iprop(ctx X Wt K ∗ owe (F := F) c (AllO c) ∗ (dutyTok ER (cell (leftD c) kBar) 0 0 ∗ dutyTok ER (cell (rightD c) kBar) 0 1)
        ∗ cred (tallyAt (cell c kBar) tB 2) ∗ atPos ER (cell c kBar) 0 ∅ 0 ∗ (bigSep Finset.univ fun q => slotAny (F := F) c q 1)
        ∗ bigSep (Finset.Ico 0 7) fun j => maxAny (F := F) c (backD c (s7 j)))
      ⊢ WP c (do semSignalWord (leftD c) barS 1#32
                 semSignalWord (rightD c) barS 1#32
                 semWaitWord barS 2#32) fun _ => iprop(owe (F := F) c (FirO c 8 0) ∗ atPos ER (cell c kBar) 1 ∅ 0
          ∗ barPay (F := F) c 0 ∗ barPay (F := F) c 1) := by
  rw [show AllO c = FirO c 8 0 + tallyAt (cell (rightD c) kBar) tB 1 + tallyAt (cell (leftD c) kBar) tB 1 from rfl]
  iintro ⟨#HC, HO, ⟨Ht1, Ht2⟩, Hc, Hat, Hs, Hm⟩
  ihave Hs := (bar_slots X Wt K c) $$ [Hs]
  · isplitr; · iexact HC
    iexact Hs
  icases Hs with ⟨Hs0, Hs1⟩
  ihave Hm := (pass_left c) $$ Hm
  iapply (seq (bar_signal_wp X Wt K c (leftD c) 0 (by decide) _)) $$ [HO Ht1 Hs0 Hm]
  · isplitr; · iexact HC
    isplitl [HO]; · iexact HO
    isplitl [Ht1]; · iexact Ht1
    unfold barPay
    rw [if_pos rfl]
    isplitl [Hs0]; · iexact Hs0
    iexact Hm
  iintro %_ HO
  iapply (seq (bar_signal_wp X Wt K c (rightD c) 1 (by decide) _)) $$ [HO Ht2 Hs1]
  · isplitr; · iexact HC
    isplitl [HO]; · iexact HO
    isplitl [Ht2]; · iexact Ht2
    unfold barPay
    rw [if_neg (by decide : ¬ (1 : ℕ) = 0)]
    isplitl [Hs1]; · iexact Hs1
    iempintro
  iintro %_ HO
  iapply (fin (bar_wait_wp X Wt K c _ (FirO_later c tB 8 0 (by decide) rfl))) $$ [HO Hc Hat]
  · isplitr; · iexact HC
    isplitl [Hc]; · iexact Hc
    isplitl [HO]; · iexact HO
    iexact Hat
  iintro %_ H
  iexact H

theorem body_wp :
    iprop(ctx X Wt K ∗ opsIs X Wt c ∗ owe (F := F) c (AllO c) ∗ toksR (F := F) c ∗ credsR (F := F) c ∗ posR (F := F) c 0 0 0 0 0 0
        ∗ bufsR (F := F) c)
      ⊢ WP c bodyP fun _ => iprop(opsIs X Wt c ∗ owe (F := F) c 0 ∗ posR (F := F) c 1 4 3 3 4 6
          ∗ (bigSep Finset.univ fun q => iprop(slotAny (F := F) c q 0 ∗ slotAny (F := F) c q 1))
          ∗ owns (c : Thread nD τ) maxRef fullShare (mAll X Wt) ∗ bigSep Finset.univ fun j => colIs c j (outv X Wt c j)) := by
  unfold bodyP toksR credsR posR bufsR
  iintro ⟨#HC, HX, HO, ⟨Htb, Htf, Htr, Htm⟩, ⟨Hcb, Hcr, Hcl, Hcm⟩, ⟨Hab, Haq, Ham, Has⟩, ⟨Hs0, Hs1, Hmx, Hcol⟩⟩
  ihave Hmx := (max_out c) $$ Hmx
  icases Hmx with ⟨Hmc, Hmx⟩
  simp only [Prog.lift, Prog.bind_op, Prog.bind_ret, wp_deviceId]
  iapply (seq (enter_wp X Wt K c)) $$ [HO Htb Hcb Hab Hs1 Hmx]
  · isplitr; · iexact HC
    isplitl [HO]; · iexact HO
    isplitl [Htb]; · iexact Htb
    isplitl [Hcb]; · iexact Hcb
    isplitl [Hab]; · iexact Hab
    isplitl [Hs1]; · iexact Hs1
    iexact Hmx
  iintro %_ ⟨HO, Hab, Hb⟩
  ihave Hst := (pre_intro c) $$ [Hb Hs0 Haq]
  · isplitl [Hb]; · iexact Hb
    isplitl [Hs0]; · iexact Hs0
    iexact Haq
  iapply (seq (firsts_wp X Wt K c)) $$ [HX HO Htf Hst]
  · isplitr; · iexact HC
    isplitl [HX]; · iexact HX
    isplitl [HO]; · iexact HO
    isplitl [Htf]; · iexact Htf
    iexact Hst
  iintro %_ ⟨HX, HO, Hst⟩
  iapply (seq (relays_wp X Wt K c)) $$ [HX HO Htr Hcr Hst]
  · isplitr; · iexact HC
    isplitl [HX]; · iexact HX
    isplitl [HO]; · iexact HO
    isplitl [Htr]; · iexact Htr
    isplitl [Hcr]; · iexact Hcr
    iexact Hst
  iintro %_ ⟨HX, HO, Hst⟩
  iapply (seq (lasts_wp X Wt K c)) $$ [HX HO Hcl Hst Hcol]
  · isplitr; · iexact HC
    isplitl [HX]; · iexact HX
    isplitl [HO]; · iexact HO
    isplitl [Hcl]; · iexact Hcl
    rw [bigSep_sep']
    isplitl [Hst]; · iexact Hst
    iapply (Entails.of_eq (cols_in fun j => colAny (F := F) c j)); iexact Hcol
  iintro %m ⟨%hm, HX, HO, Hst⟩
  ihave Hst := (Entails.of_eq (bigSep_sep' Finset.univ (stEnd (F := F) c) fun q => colIs c (tix q) (done X Wt c q))) $$ Hst
  icases Hst with ⟨Hst, Hcol⟩
  ihave Hcol := (Entails.of_eq (cols_out c (done X Wt c))) $$ Hcol
  iapply (seq (offs_wp X Wt K c _ (AmO_later c 0 7 0 (by decide)))) $$ [HO Hst]
  · isplitr; · iexact HC
    isplitl [HO]; · iexact HO
    iexact Hst
  iintro %_ ⟨HO, Hst⟩
  ihave Hst := (fin_elim c) $$ Hst
  icases Hst with ⟨Hsl, Haq, Hms⟩
  iapply (fin (tail_wp X Wt K c m hm)) $$ [Hmc Hms HO Htm Hcm Ham Has Hcol]
  · isplitr; · iexact HC
    isplitl [Hmc Hms]
    · isplitl [Hmc]; · iexact Hmc
      iexact Hms
    isplitl [HO]; · iexact HO
    isplitl [Htm]; · iexact Htm
    isplitl [Hcm]; · iexact Hcm
    isplitl [Ham Has]
    · isplitl [Ham]; · iexact Ham
      iexact Has
    iexact Hcol
  iintro %_ ⟨HO, ⟨Ham, Has⟩, Hm, Hcol⟩
  isplitl [HX]; · iexact HX
  isplitl [HO]; · iexact HO
  isplitl [Hab Haq Ham Has]
  · isplitl [Hab]; · iexact Hab
    isplitl [Haq]; · iexact Haq
    isplitl [Ham]; · iexact Ham
    iexact Has
  isplitl [Hsl]; · iexact Hsl
  isplitl [Hm]; · iexact Hm
  iexact Hcol

end Cert.KernelIdeal.Hand

end
-- ==== Proof.Creds.lean ====
/- What the launch credits a device with: everything the other devices owe its cells, regrouped as the kernel waits for it. -/
module

public import proofs.«01_k».proof.Proof.Whole

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What the launch credits -/

/-- A run over `a + b` numbers, cut after the first `a`. -/
theorem cut_run (a b : ℕ) (Φ : ℕ → sProp 𝕄) :
    bigSep (Finset.Ico 0 (a + b)) Φ = iprop(bigSep (Finset.Ico 0 a) Φ ∗ bigSep (Finset.Ico 0 b) fun n => Φ (n + a)) := by
  have e : Finset.Ico 0 (a + b) = Finset.Ico 0 a ∪ (Finset.Ico 0 b).map (addRightEmbedding a) := by
    ext x
    simp only [Finset.mem_union, Finset.mem_map, Finset.mem_Ico, addRightEmbedding_apply]
    constructor
    · intro h
      by_cases hx : x < a
      · exact Or.inl ⟨by omega, hx⟩
      · exact Or.inr ⟨x - a, by omega, by omega⟩
    · rintro (h | ⟨y, h, rfl⟩) <;> omega
  have d : Disjoint (Finset.Ico 0 a) ((Finset.Ico 0 b).map (addRightEmbedding a)) := by
    rw [Finset.disjoint_left]
    intro x h h'
    simp only [Finset.mem_map, Finset.mem_Ico, addRightEmbedding_apply] at h h'
    obtain ⟨y, hy, rfl⟩ := h'
    omega
  rw [e, bigSep_union d, bigSep_map]
  rfl

variable (c : Dev nD)

/-- The credit of arrival number `n`, counted over all the streams. -/
def arrCred (n : ℕ) : sProp 𝕄 := cred (tallyAt (cell c (kRcv (sq n) (ob (sb (n / 8))))) (tR n) NB)
/-- The credit of credit number `n`. -/
def crdCred (n : ℕ) : sProp 𝕄 := cred (tallyAt (cell c (kCrd (sq n))) (tC n) 1)
/-- The credit of one arriving maximum. -/
def maxCred : sProp 𝕄 := cred (tallyAt (cell c kMrc) tM NM)

theorem am_creds (k j : ℕ) :
    (Pipeline.launchCred (fun d => AmO d k j) c : sProp 𝕄) ⊢ bigSep (Finset.Ico j (j + k)) fun _ => maxCred (F := F) c := by
  induction k generalizing j with
  | zero => rw [Nat.add_zero, Finset.Ico_self, bigSep_empty]; exact Entails.of_eq (Pipeline.launchCred_zero c)
  | succ k ih =>
    rw [bigSep_Ico_succ_bot (show j < j + (k + 1) by omega), show j + (k + 1) = (j + 1) + k from by omega,
      show (fun d : Dev nD => AmO d (k + 1) j) = fun d => AmO d k (j + 1) + tallyAt (cell (farD d (s7 j)) kMrc) tM NM from rfl,
      Pipeline.launchCred_add]
    iintro ⟨H, H'⟩
    isplitl [H']
    · unfold maxCred
      iapply (Pipeline.launchCred_tallyAt (csem kMrc) (fun d => farD d (s7 j)) (fun d => backD d (s7 j))
        (fun d => far_back d (s7 j)) (fun d => back_far d (s7 j)) tM NM c)
      iexact H'
    · iapply (ih (j + 1)); iexact H

theorem arr_cred (q : Fin 8) (b : Fin 2) (t : ℕ) :
    (Pipeline.launchCred (fun d => tallyAt (cell (dn q d) (kRcv q b)) t NB) c : sProp 𝕄) ⊢ cred (tallyAt (cell c (kRcv q b)) t NB) :=
  Pipeline.launchCred_tallyAt (csem (kRcv q b)) (fun d => dn q d) (fun d => upD q d) (dn_up q) (up_dn q) t NB c

theorem crd_cred (q : Fin 8) (t : ℕ) :
    (Pipeline.launchCred (fun d => tallyAt (cell (upD q d) (kCrd q)) t 1) c : sProp 𝕄) ⊢ cred (tallyAt (cell c (kCrd q)) t 1) :=
  Pipeline.launchCred_tallyAt (csem (kCrd q)) (fun d => upD q d) (fun d => dn q d) (up_dn q) (dn_up q) t 1 c

theorem sq_plus (n : ℕ) : sq (n + 8) = sq n := by
  apply Fin.ext; show (n + 8) % 8 = n % 8; omega

theorem rel_creds (k n : ℕ) :
    (Pipeline.launchCred (fun d => RelO d k n) c : sProp 𝕄) ⊢ iprop((Pipeline.launchCred (fun d => AmO d 7 0) c)
      ∗ (bigSep (Finset.Ico n (n + k)) fun m => arrCred (F := F) c (m + 8)) ∗ bigSep (Finset.Ico n (n + k)) (crdCred (F := F) c)) := by
  induction k generalizing n with
  | zero =>
    rw [Nat.add_zero, Finset.Ico_self, bigSep_empty, bigSep_empty]
    iintro H
    isplitl [H]
    · iexact H
    isplitr <;> iempintro
  | succ k ih =>
    rw [bigSep_Ico_succ_bot (show n < n + (k + 1) by omega), bigSep_Ico_succ_bot (show n < n + (k + 1) by omega),
      show n + (k + 1) = (n + 1) + k from by omega,
      show (fun d : Dev nD => RelO d (k + 1) n) = fun d => (RelO d k (n + 1) + arrOwed d (sq n) (n / 8 + 1) (tR (n + 8))) + crdOwed d (sq n) (tC n) from rfl,
      Pipeline.launchCred_add, Pipeline.launchCred_add]
    iintro ⟨⟨H, Ha⟩, Hc⟩
    ihave H := (ih (n + 1)) $$ H
    icases H with ⟨H1, H2, H3⟩
    isplitl [H1]; · iexact H1
    isplitl [Ha H2]
    · isplitl [Ha]
      · unfold arrCred
        rw [sq_plus, show (n + 8) / 8 = n / 8 + 1 from by omega]
        iapply (arr_cred c (sq n) (ob (sb (n / 8 + 1))) (tR (n + 8))); iexact Ha
      · iexact H2
    isplitl [Hc]
    · unfold crdCred
      iapply (crd_cred c (sq n) (tC n)); iexact Hc
    · iexact H3

theorem fir_creds (k n : ℕ) (h : n + k = 8) :
    (Pipeline.launchCred (fun d => FirO d k n) c : sProp 𝕄) ⊢ iprop((Pipeline.launchCred (fun d => RelO d 48 0) c)
      ∗ bigSep (Finset.Ico n 8) (arrCred (F := F) c)) := by
  induction k generalizing n with
  | zero =>
    rw [show n = 8 from h, Finset.Ico_self, bigSep_empty]
    iintro H
    isplitl [H]
    · iexact H
    iempintro
  | succ k ih =>
    rw [bigSep_Ico_succ_bot (show n < 8 by omega),
      show (fun d : Dev nD => FirO d (k + 1) n) = fun d => FirO d k (n + 1) + arrOwed d (sq n) 0 (tR n) from rfl,
      Pipeline.launchCred_add]
    iintro ⟨H, Ha⟩
    ihave H := (ih (n + 1) (by omega)) $$ H
    icases H with ⟨H1, H2⟩
    isplitl [H1]; · iexact H1
    isplitl [Ha]
    · unfold arrCred
      rw [show n / 8 = 0 from by omega]
      iapply (arr_cred c (sq n) (ob (sb 0)) (tR n)); iexact Ha
    · iexact H2

theorem bar_creds :
    iprop((Pipeline.launchCred (fun d => tallyAt (cell (rightD d) kBar) tB 1) c)
        ∗ Pipeline.launchCred (fun d => tallyAt (cell (leftD d) kBar) tB 1) c)
      ⊢ (cred (tallyAt (cell c kBar) tB 2) : sProp 𝕄) := by
  rw [show (2 : ℕ) = 1 + 1 from rfl, ← tallyAt_add]
  refine BIBase.Entails.trans ?_ (cred_add _ _).2
  exact BIClass.sep_mono (Pipeline.launchCred_tallyAt (csem kBar) rightD leftD right_left left_right tB 1 c)
    (Pipeline.launchCred_tallyAt (csem kBar) leftD rightD left_right right_left tB 1 c)

/-- The launch credits a device with all it will wait for. -/
theorem launch_creds : (Pipeline.launchCred AllO c : sProp 𝕄) ⊢ credsR (F := F) c := by
  have ea : iprop(bigSep (Finset.Ico 0 8) (arrCred (F := F) c) ∗ bigSep (Finset.Ico 0 48) fun n => arrCred (F := F) c (n + 8))
      = iprop(bigSep (Finset.Ico 0 48) (arrCred (F := F) c) ∗ bigSep (Finset.Ico 0 8) (lastCred (F := F) c)) := by
    rw [← cut_run 8 48, show 8 + 48 = 48 + 8 from rfl, cut_run 48 8]
    have e : bigSep (Finset.Ico 0 8) (fun n => arrCred (F := F) c (n + 48)) = bigSep (Finset.Ico 0 8) (lastCred (F := F) c) :=
      bigSep_congr fun n hn => by
        have h8 : n < 8 := (Finset.mem_Ico.mp hn).2
        unfold arrCred lastCred
        rw [show (n + 48) / 8 = 6 from by omega, show sq (n + 48) = sq n from Fin.ext (by show (n + 48) % 8 = n % 8; omega), Nat.add_comm n 48]
    rw [e]
  have er : bigSep (Finset.Ico 0 48) (relCred (F := F) c) = iprop(bigSep (Finset.Ico 0 48) (arrCred (F := F) c) ∗ bigSep (Finset.Ico 0 48) (crdCred (F := F) c)) := by
    rw [← bigSep_sep']; rfl
  unfold credsR
  rw [er, show (AllO : Dev nD → CellTallies nD τ sig ℕ) = fun d => (FirO d 8 0 + tallyAt (cell (rightD d) kBar) tB 1) + tallyAt (cell (leftD d) kBar) tB 1 from rfl,
    Pipeline.launchCred_add, Pipeline.launchCred_add]
  iintro ⟨⟨H, Hr⟩, Hl⟩
  ihave H := (fir_creds c 8 0 rfl) $$ H
  icases H with ⟨H, Hf⟩
  ihave H := (rel_creds c 48 0) $$ H
  icases H with ⟨H, Ha, Hc⟩
  ihave H := (am_creds c 7 0) $$ H
  ihave Ha := (Entails.of_eq ea) $$ [Hf Ha]
  · isplitl [Hf] <;> iassumption
  icases Ha with ⟨Ha, Hz⟩
  isplitl [Hr Hl]
  · iapply (bar_creds c)
    isplitl [Hr] <;> iassumption
  isplitl [Ha Hc]
  · isplitl [Ha] <;> iassumption
  isplitl [Hz]; · iexact Hz
  iexact H

end Cert.KernelIdeal.Hand

end
-- ==== Proof.Deal.lean ====
/- Dealing out what the cells start with: their tokens, each to the device that pays it, and their positions. -/
module

public import proofs.«01_k».proof.Proof.Creds

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The tokens of a device's own cells -/

/-- A token, among those of one device: the barrier's two, the sends', the arrivals', the credits', the maxima's sends'
    and the maxima's arrivals'. -/
abbrev Tk : Type := Fin 2 ⊕ Fin 56 ⊕ Fin 56 ⊕ Fin 48 ⊕ Fin 7 ⊕ Fin 7

/-- Its cell, round and duty. -/
def tokAt : Tk → Ck × ℕ × ℕ
  | .inl i => (kBar, 0, i.val)
  | .inr (.inl n) => (kSnd (sq n.val) (sb (n.val / 8)), n.val / 8 / 2, 0)
  | .inr (.inr (.inl n)) => (kRcv (sq n.val) (ob (sb (n.val / 8))), n.val / 8 / 2, 0)
  | .inr (.inr (.inr (.inl n))) => (kCrd (sq n.val), n.val / 8, 0)
  | .inr (.inr (.inr (.inr (.inl j)))) => (kMsn j, 0, 0)
  | .inr (.inr (.inr (.inr (.inr j)))) => (kMrc, 0, j.val)

theorem num_inj (n n' : Fin 56) (h1 : sq n.val = sq n'.val) (h2 : (sb (n.val / 8)).val = (sb (n'.val / 8)).val)
    (h3 : n.val / 8 / 2 = n'.val / 8 / 2) : n = n' := by
  have a : n.val % 8 = n'.val % 8 := congrArg Fin.val h1
  have b : n.val / 8 % 2 = n'.val / 8 % 2 := h2
  apply Fin.ext; omega

theorem tokAt_inj : Function.Injective tokAt := by
  rintro (i | n | n | n | j | j) (i' | n' | n' | n' | j' | j') h <;>
    simp only [tokAt, Prod.mk.injEq, Sum.inl.injEq, Sum.inr.injEq, reduceCtorEq, false_and, and_true, true_and] at h
  · rw [Fin.ext h]
  · rw [num_inj n n' h.1.1 (congrArg Fin.val h.1.2) h.2]
  · have e := h.1.2
    have e' : sb (n.val / 8) = sb (n'.val / 8) := by rw [← ob_ob (sb (n.val / 8)), e, ob_ob]
    rw [num_inj n n' h.1.1 (congrArg Fin.val e') h.2]
  · have a : n.val % 8 = n'.val % 8 := congrArg Fin.val h.1
    have : n = n' := Fin.ext (by omega)
    rw [this]
  · rw [h]
  · rw [Fin.ext h]

theorem cell_inj {c c' : Dev nD} {k k' : Ck} (h : cell c k = cell c' k') : c = c' ∧ k = k' :=
  ⟨congrArg (fun g : GSem nD τ sig => g.1.1) h, csem_inj (congrArg Prod.snd h)⟩

/-- All the cells; all the tokens. -/
abbrev kcell (ck : Dev nD × Ck) : GSem nD τ sig := cell ck.1 ck.2
theorem kcell_inj : Function.Injective kcell := by
  rintro ⟨c, k⟩ ⟨c', k'⟩ h
  obtain ⟨rfl, rfl⟩ := cell_inj h
  rfl
def allCells : Finset (GSem nD τ sig) := Finset.univ.map ⟨kcell, kcell_inj⟩

abbrev tokOf (ct : Dev nD × Tk) : GSem nD τ sig × ℕ × ℕ := (cell ct.1 (tokAt ct.2).1, (tokAt ct.2).2)
theorem tokOf_inj : Function.Injective tokOf := by
  rintro ⟨c, t⟩ ⟨c', t'⟩ h
  obtain ⟨rfl, hk⟩ := cell_inj (congrArg Prod.fst h)
  have ht : t = t' := tokAt_inj (Prod.ext hk (congrArg (fun x : GSem nD τ sig × ℕ × ℕ => x.2) h))
  rw [ht]
def allToks : Finset (GSem nD τ sig × ℕ × ℕ) := Finset.univ.map ⟨tokOf, tokOf_inj⟩

/-- A token of device `c`'s own cells. -/
def tok (c : Dev nD) (t : Tk) : sProp 𝕄 := dutyTok ER (cell c (tokAt t).1) (tokAt t).2.1 (tokAt t).2.2

/-! ## Who pays what -/

def leftE : Dev nD ≃ Dev nD := ⟨leftD, rightD, right_left, left_right⟩
def dnE (q : Fin 8) : Dev nD ≃ Dev nD := ⟨dn q, upD q, up_dn q, dn_up q⟩
def farE (j : Fin 7) : Dev nD ≃ Dev nD :=
  ⟨fun d => farD d j, fun d => backD d j, fun d => back_far d j, fun d => far_back d j⟩

/-- From the device that pays a token to the one whose cell it is on. -/
def payE : Tk → Dev nD ≃ Dev nD
  | .inl i => if i.val = 0 then leftE else leftE.symm
  | .inr (.inl _) => Equiv.refl _
  | .inr (.inr (.inl n)) => dnE (sq n.val)
  | .inr (.inr (.inr (.inl n))) => (dnE (sq n.val)).symm
  | .inr (.inr (.inr (.inr (.inl _)))) => Equiv.refl _
  | .inr (.inr (.inr (.inr (.inr j)))) => farE j

/-- A family over devices and tokens, dealt to the payers. -/
theorem around (e : Tk → Dev nD ≃ Dev nD) (Φ : Dev nD → Tk → sProp 𝕄) :
    (bigSep Finset.univ fun c => bigSep Finset.univ (Φ c)) = bigSep Finset.univ fun c => bigSep Finset.univ fun t => Φ (e t c) t := by
  rw [Pipeline.bigSep_univ_comm, Pipeline.bigSep_univ_comm (fun c t => Φ (e t c) t)]
  exact bigSep_congr fun t _ => bigSep_univ_equiv (e t) fun c => Φ c t

variable (c : Dev nD)

theorem both {P Q : sProp 𝕄} (h : P ⊢ Q) (h' : Q ⊢ P) : P = Q := BI.Entails.antisymm h h'

theorem sum_run {α β : Type} [Fintype α] [Fintype β] (Φ : α ⊕ β → sProp 𝕄) :
    bigSep Finset.univ Φ = iprop(bigSep Finset.univ (fun a => Φ (.inl a)) ∗ bigSep Finset.univ (fun b => Φ (.inr b))) := bigSep_univ_sum Φ

theorem fin_run (n : ℕ) (Φ : ℕ → sProp 𝕄) : bigSep (Finset.univ : Finset (Fin n)) (fun i => Φ i.val) = bigSep (Finset.Ico 0 n) Φ := by
  rw [fin_range, Finset.range_eq_Ico]

def sndTok (n : ℕ) : sProp 𝕄 := dutyTok ER (cell c (kSnd (sq n) (sb (n / 8)))) (n / 8 / 2) 0
def rcvTok (n : ℕ) : sProp 𝕄 := dutyTok ER (cell (dn (sq n) c) (kRcv (sq n) (ob (sb (n / 8))))) (n / 8 / 2) 0
def crdTok (n : ℕ) : sProp 𝕄 := dutyTok ER (cell (upD (sq n) c) (kCrd (sq n))) (n / 8) 0

theorem send_toks : iprop(bigSep (Finset.Ico 0 56) (sndTok (F := F) c) ∗ bigSep (Finset.Ico 0 56) (rcvTok (F := F) c))
    = iprop((bigSep (Finset.Ico 0 8) fun n => sendTok (F := F) c (sq n) 0) ∗ bigSep (Finset.Ico 0 48) fun n => sendTok (F := F) c (sq n) (n / 8 + 1)) := by
  have e : ∀ n, iprop(sndTok (F := F) c n ∗ rcvTok (F := F) c n) = sendTok (F := F) c (sq n) (n / 8) := fun n => rfl
  rw [← bigSep_sep', bigSep_congr fun n _ => e n, show 56 = 8 + 48 from rfl, cut_run 8 48,
    bigSep_congr (s := Finset.Ico 0 8) (Ψ := fun n => sendTok (F := F) c (sq n) 0) fun n hn => by
      rw [show n / 8 = 0 from by have := (Finset.mem_Ico.mp hn).2; omega],
    bigSep_congr (s := Finset.Ico 0 48) (Φ := fun n => sendTok (F := F) c (sq (n + 8)) ((n + 8) / 8))
      (Ψ := fun n => sendTok (F := F) c (sq n) (n / 8 + 1)) fun n _ => by
      rw [sq_plus, show (n + 8) / 8 = n / 8 + 1 from by omega]]

theorem max_toks :
    iprop((bigSep Finset.univ fun j : Fin 7 => (dutyTok ER (cell c (kMsn j)) 0 0 : sProp 𝕄))
        ∗ bigSep Finset.univ fun j : Fin 7 => (dutyTok ER (cell (farD c j) kMrc) 0 j.val : sProp 𝕄))
      = bigSep (Finset.Ico 0 7) (mTok (F := F) c) := by
  have e : ∀ j : Fin 7, iprop(dutyTok ER (cell c (kMsn j)) 0 0 ∗ dutyTok ER (cell (farD c j) kMrc) 0 j.val) = mTok (F := F) c j.val := fun j => by
    unfold mTok; rw [s7_fin]
  rw [← bigSep_sep', ← fin_run 7 (mTok (F := F) c)]
  exact bigSep_congr fun j _ => e j

/-- The tokens a device pays. -/
theorem deal : (bigSep Finset.univ fun t => tok (F := F) (payE t c) t) = toksR (F := F) c := by
  have hb : (bigSep Finset.univ fun i : Fin 2 => tok (F := F) (payE (.inl i) c) (.inl i))
      = iprop(dutyTok ER (cell (leftD c) kBar) 0 0 ∗ dutyTok ER (cell (rightD c) kBar) 0 1) :=
    bigSep_univ_eq_bigSepL [0, 1] (by decide) (by decide) _
  have hs : (bigSep Finset.univ fun n : Fin 56 => tok (F := F) (payE (.inr (.inl n)) c) (.inr (.inl n)))
      = bigSep (Finset.Ico 0 56) (sndTok (F := F) c) := fin_run 56 (sndTok (F := F) c)
  have hr : (bigSep Finset.univ fun n : Fin 56 => tok (F := F) (payE (.inr (.inr (.inl n))) c) (.inr (.inr (.inl n))))
      = bigSep (Finset.Ico 0 56) (rcvTok (F := F) c) := fin_run 56 (rcvTok (F := F) c)
  have hc : (bigSep Finset.univ fun n : Fin 48 => tok (F := F) (payE (.inr (.inr (.inr (.inl n)))) c) (.inr (.inr (.inr (.inl n)))))
      = bigSep (Finset.Ico 0 48) (crdTok (F := F) c) := fin_run 48 (crdTok (F := F) c)
  have er : bigSep (Finset.Ico 0 48) (relTok (F := F) c)
      = iprop((bigSep (Finset.Ico 0 48) fun n => sendTok (F := F) c (sq n) (n / 8 + 1)) ∗ bigSep (Finset.Ico 0 48) (crdTok (F := F) c)) := by
    rw [← bigSep_sep']; rfl
  rw [sum_run, sum_run, sum_run, sum_run, sum_run, hb, hs, hr, hc]
  unfold toksR
  rw [er, ← max_toks]
  refine both ?_ ?_
  · iintro ⟨Hb, Hs, Hr, Hc, Hm⟩
    ihave H := (Entails.of_eq (send_toks c)) $$ [Hs Hr]
    · isplitl [Hs] <;> iassumption
    icases H with ⟨H1, H2⟩
    isplitl [Hb]; · iexact Hb
    isplitl [H1]; · iexact H1
    isplitl [H2 Hc]
    · isplitl [H2] <;> iassumption
    iexact Hm
  · iintro ⟨Hb, H1, ⟨H2, Hc⟩, Hm⟩
    ihave H := (Entails.of_eq (send_toks c).symm) $$ [H1 H2]
    · isplitl [H1] <;> iassumption
    icases H with ⟨Hs, Hr⟩
    isplitl [Hb]; · iexact Hb
    isplitl [Hs]; · iexact Hs
    isplitl [Hr]; · iexact Hr
    isplitl [Hc]; · iexact Hc
    iexact Hm

/-! ## Positions -/

theorem unit_run (Φ : Unit → sProp 𝕄) : bigSep Finset.univ Φ = Φ () := by
  rw [Finset.univ_unique, bigSep_singleton]

theorem two_run (Φ : Fin 2 → sProp 𝕄) : bigSep Finset.univ Φ = iprop(Φ 0 ∗ Φ 1) := bigSep_univ_eq_bigSepL [0, 1] (by decide) (by decide) Φ

theorem prod_run (Φ : Fin 8 × Fin 2 → sProp 𝕄) :
    bigSep Finset.univ Φ = iprop((bigSep Finset.univ fun q => Φ (q, 0)) ∗ bigSep Finset.univ fun q => Φ (q, 1)) := by
  rw [bigSep_univ_prod, ← bigSep_sep']
  exact bigSep_congr fun q _ => two_run fun b => Φ (q, b)

/-- The rounds a device has been through, cell by cell. -/
def roundOf (n a b d e f : ℕ) : Ck → ℕ
  | .inl () => n
  | .inr (.inl (_, x)) => if x.val = 0 then a else b
  | .inr (.inr (.inl (_, x))) => if x.val = 0 then d else e
  | .inr (.inr (.inr (.inl _))) => f
  | .inr (.inr (.inr (.inr _))) => n

theorem pos_all (n a b d e f : ℕ) :
    (bigSep Finset.univ fun k : Ck => (atPos ER (cell c k) (roundOf n a b d e f k) ∅ 0 : sProp 𝕄)) = posR (F := F) c n a b d e f := by
  have hm : (bigSep (Finset.Ico 0 7) fun j => (atPos ER (cell c (kMsn (s7 j))) n ∅ 0 : sProp 𝕄))
      = bigSep Finset.univ fun j : Fin 7 => (atPos ER (cell c (kMsn j)) n ∅ 0 : sProp 𝕄) := by
    rw [← fin_run 7 fun j => (atPos ER (cell c (kMsn (s7 j))) n ∅ 0 : sProp 𝕄)]
    exact bigSep_congr fun j _ => by rw [s7_fin]
  have hq : (bigSep Finset.univ fun q => posQ (F := F) c q a b d e f)
      = iprop((bigSep Finset.univ fun q : Fin 8 => (atPos ER (cell c (kSnd q 0)) a ∅ 0 : sProp 𝕄))
        ∗ (bigSep Finset.univ fun q : Fin 8 => (atPos ER (cell c (kSnd q 1)) b ∅ 0 : sProp 𝕄))
        ∗ (bigSep Finset.univ fun q : Fin 8 => (atPos ER (cell c (kRcv q 0)) d ∅ 0 : sProp 𝕄))
        ∗ (bigSep Finset.univ fun q : Fin 8 => (atPos ER (cell c (kRcv q 1)) e ∅ 0 : sProp 𝕄))
        ∗ (bigSep Finset.univ fun q : Fin 8 => (atPos ER (cell c (kCrd q)) f ∅ 0 : sProp 𝕄))) := by
    rw [← bigSep_sep', ← bigSep_sep', ← bigSep_sep', ← bigSep_sep']; rfl
  unfold posR
  rw [hm, hq, sum_run, sum_run, sum_run, sum_run, sum_run, unit_run, unit_run, prod_run, prod_run]
  refine both ?_ ?_
  · iintro ⟨Hb, ⟨H1, H2⟩, ⟨H3, H4⟩, H5, H6, H7⟩
    isplitl [Hb]; · iexact Hb
    isplitl [H1 H2 H3 H4 H5]
    · isplitl [H1]; · iexact H1
      isplitl [H2]; · iexact H2
      isplitl [H3]; · iexact H3
      isplitl [H4]; · iexact H4
      iexact H5
    isplitl [H7]; · iexact H7
    iexact H6
  · iintro ⟨Hb, ⟨H1, H2, H3, H4, H5⟩, H7, H6⟩
    isplitl [Hb]; · iexact Hb
    isplitl [H1 H2]
    · isplitl [H1]; · iexact H1
      iexact H2
    isplitl [H3 H4]
    · isplitl [H3]; · iexact H3
      iexact H4
    isplitl [H5]; · iexact H5
    isplitl [H6]; · iexact H6
    iexact H7

/-- After the last rounds nothing more is due anywhere. -/
theorem round_last (k : Ck) (r : ℕ) (h : roundOf 1 4 3 3 4 6 k ≤ r) : dutiesOf k r = ∅ := by
  rcases k with ⟨⟩ | ⟨q, b⟩ | ⟨q, b⟩ | q | j | ⟨⟩
  · have h : 1 ≤ r := h
    exact if_neg (by omega)
  · have h : (if b.val = 0 then 4 else 3) ≤ r := h
    exact if_neg (by split at h <;> omega)
  · have h : (if b.val = 0 then 3 else 4) ≤ r := h
    exact if_neg (by rw [ob_val]; split at h <;> omega)
  · have h : 6 ≤ r := h
    exact if_neg (by omega)
  · have h : 1 ≤ r := h
    exact if_neg (by omega)
  · have h : 1 ≤ r := h
    exact if_neg (by omega)

end Cert.KernelIdeal.Hand

end
-- ==== Proof.Alloc.lean ====
/- The launch: funding the cells, opening them on every device, and closing them at the end. -/
module

public import proofs.«01_k».proof.Proof.Deal

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S4096x512 .bf16) (Wt : Dev nD → Vec F S512x8192 .bf16)
variable (K : Dev nD × Ck → ℕ) (c : Dev nD)

/-! ## The launch element -/

def u₀ : UU :=
  (initOf (Pipeline.cells cfgs cellOf_inj) (Pipeline.launchToks cfgs cellOf_inj), initOf allCells allToks)

/-- A device's part of it. -/
def G : sProp 𝕄 :=
  iprop((bigSep Finset.univ fun k : Ck => roundState ER (Rd X Wt) (cell c k) 0)
    ∗ (bigSep Finset.univ fun k : Ck => (atPos ER (cell c k) 0 ∅ 0 : sProp 𝕄))
    ∗ (bigSep Finset.univ fun k : Ck => (reached ER (cell c k) 0 : sProp 𝕄)) ∗ bigSep Finset.univ (tok (F := F) c))

/-- The cells' records. -/
def recs : sProp 𝕄 :=
  iprop((bigSep Finset.univ fun ck : Dev nD × Ck => cellInv ER (Rd X Wt) (K ck) (cell ck.1 ck.2))
    ∗ bigSep Finset.univ fun ck : Dev nD × Ck => (reached ER (cell ck.1 ck.2) 0 : sProp 𝕄))

instance recs_persistent : BI.Persistent (recs X Wt K) := by unfold recs; infer_instance

/-- What a device starts with. -/
def G' : sProp 𝕄 := iprop(∃ K, recs X Wt K ∗ toksR (F := F) c ∗ posR (F := F) c 0 0 0 0 0 0)

theorem fund_all : BI.own (ER (initOf allCells allToks)) ⊢ (|==> bigSep Finset.univ (G X Wt) : sProp 𝕄) := by
  have hX (Φ : GSem nD τ sig → sProp 𝕄) : bigSep allCells Φ = bigSep Finset.univ fun c : Dev nD => bigSep Finset.univ fun k : Ck => Φ (cell c k) := by
    unfold allCells; rw [bigSep_map, bigSep_univ_prod]; rfl
  have hT : bigSep allToks (fun x => (dutyTok ER x.1 x.2.1 x.2.2 : sProp 𝕄)) = bigSep Finset.univ fun c : Dev nD => bigSep Finset.univ (tok (F := F) c) := by
    unfold allToks; rw [bigSep_map, bigSep_univ_prod]; rfl
  iintro HX
  imod (Rounds.fund ER (Rd X Wt) allCells allToks) $$ HX with ⟨Hst, Hr, Hat, Htok⟩
  imodintro
  ihave Hst' := (Entails.of_eq (hX fun g => roundState ER (Rd X Wt) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores -/

theorem unscoped_eq : (unscopedSems0 c : sProp 𝕄) = semVal (cell c kBar) 0 := by
  unfold unscopedSems0; rw [bigSep_eq_bigSepL_of_eq [SemLoc.reg barS] (by decide +kernel) (by decide)]; rfl

/-- A device's own semaphores and its barrier's are its cells. -/
theorem sems_eq :
    iprop(Pipeline.ownSems0 (Ix := ℕ) (Name := ℕ) (U := UU) (Lvl := ℕ) (Val := Elt F) (τ := τ) osem c ∗ unscopedSems0 c)
      = (bigSep Finset.univ fun k : Ck => semVal (cell c k) 0 : sProp 𝕄) := by
  have ho : (Pipeline.ownSems0 (Ix := ℕ) (Name := ℕ) (U := UU) (Lvl := ℕ) (Val := Elt F) (τ := τ) osem c : sProp 𝕄)
      = bigSep Finset.univ fun k : Ok => semVal (cell c (.inr k)) 0 := by unfold Pipeline.ownSems0; rfl
  rw [sum_run, unit_run, unscoped_eq, ho]
  refine both ?_ ?_
  · iintro ⟨H1, H2⟩
    isplitl [H2]; · iexact H2
    iexact H1
  · iintro ⟨H1, H2⟩
    isplitl [H2]; · iexact H2
    iexact H1

theorem open_cells :
    iprop((bigSep Finset.univ fun k : Ck => (semVal (cell c k) 0 : sProp 𝕄)) ∗ bigSep Finset.univ fun k : Ck => roundState ER (Rd X Wt) (cell c k) 0)
      ⊢ (|={Set.univ}=> bigSep Finset.univ fun k : Ck => iprop(∃ κ : ℕ, cellInv ER (Rd X Wt) κ (cell c k)) : sProp 𝕄) := by
  rw [← bigSep_sep']
  exact (bigSep_mono fun k _ => (Rounds.body_intro ER (Rd X Wt) (cell c k)).trans inv_alloc).trans (bigSep_fupd _ _)

theorem core_alloc :
    iprop(Pipeline.ownSems0 (Ix := ℕ) (Name := ℕ) (U := UU) (Lvl := ℕ) (Val := Elt F) (τ := τ) osem c ∗ unscopedSems0 c ∗ G X Wt c)
      ⊢ |={Set.univ}=> iprop((bigSep Finset.univ fun k : Ck => iprop(∃ κ : ℕ, cellInv ER (Rd X Wt) κ (cell c k)))
          ∗ (bigSep Finset.univ fun k : Ck => (atPos ER (cell c k) 0 ∅ 0 : sProp 𝕄))
          ∗ (bigSep Finset.univ fun k : Ck => (reached ER (cell c k) 0 : sProp 𝕄)) ∗ bigSep Finset.univ (tok (F := F) c)) := by
  unfold G
  iintro ⟨Hos, Hus, Hst, Hat⟩
  ihave Hv := (Entails.of_eq (sems_eq (F := F) c)) $$ [Hos Hus]
  · isplitl [Hos] <;> iassumption
  imod (open_cells X Wt c) $$ [Hv Hst] with Hinv
  · isplitl [Hv] <;> iassumption
  imodintro
  isplitl [Hinv]; · iexact Hinv
  iexact Hat

theorem pos_start : (bigSep Finset.univ fun k : Ck => (atPos ER (cell c k) 0 ∅ 0 : sProp 𝕄)) = posR (F := F) c 0 0 0 0 0 0 := by
  rw [← pos_all]
  refine bigSep_congr fun k _ => ?_
  have e : roundOf 0 0 0 0 0 0 k = 0 := by
    rcases k with ⟨⟩ | ⟨q, b⟩ | ⟨q, b⟩ | q | j | ⟨⟩ <;> first | rfl | exact ite_self _
  rw [e]

theorem start_one : iprop(recs X Wt K ∗ toksR (F := F) c ∗ posR (F := F) c 0 0 0 0 0 0) ⊢ G' X Wt c := by
  unfold G'
  iintro H
  iexists K
  iexact H

theorem regroup :
    (bigSep Finset.univ fun c : Dev nD => iprop((bigSep Finset.univ fun k : Ck => iprop(∃ κ : ℕ, cellInv ER (Rd X Wt) κ (cell c k)))
          ∗ (bigSep Finset.univ fun k : Ck => (atPos ER (cell c k) 0 ∅ 0 : sProp 𝕄))
          ∗ (bigSep Finset.univ fun k : Ck => (reached ER (cell c k) 0 : sProp 𝕄)) ∗ bigSep Finset.univ (tok (F := F) c)) : sProp 𝕄)
      ⊢ bigSep Finset.univ (G' X Wt) := by
  have hj : iprop((bigSep Finset.univ fun c : Dev nD => bigSep Finset.univ fun t => tok (F := F) (payE t c) t)
      ∗ bigSep Finset.univ fun c : Dev nD => bigSep Finset.univ fun k : Ck => (atPos ER (cell c k) 0 ∅ 0 : sProp 𝕄))
      = bigSep Finset.univ fun c : Dev nD => iprop(toksR (F := F) c ∗ posR (F := F) c 0 0 0 0 0 0) := by
    rw [← bigSep_sep']
    exact bigSep_congr fun c _ => by rw [deal, pos_start]
  rw [bigSep_sep', bigSep_sep', bigSep_sep', ← bigSep_univ_prod (fun ck : Dev nD × Ck => iprop(∃ κ : ℕ, cellInv ER (Rd X Wt) κ (cell ck.1 ck.2))),
    ← bigSep_univ_prod (fun ck : Dev nD × Ck => (reached ER (cell ck.1 ck.2) 0 : sProp 𝕄)), around payE (tok (F := F))]
  iintro ⟨HI, Hat, #HR, Htok⟩
  ihave HK := (BI.bigSep_exists_pi Finset.univ (fun (ck : Dev nD × Ck) (κ : ℕ) => (cellInv ER (Rd X Wt) κ (cell ck.1 ck.2) : sProp 𝕄))) $$ HI
  icases HK with ⟨%K, #HI⟩
  ihave Hj := (Entails.of_eq hj) $$ [Htok Hat]
  · isplitl [Htok] <;> iassumption
  iapply (BI.bigSep_with_persistent (R := recs X Wt K) fun c _ => start_one X Wt K c)
  isplitr
  · unfold recs; isplitl; · iexact HI
    iexact HR
  · iexact Hj

/-- The launch's step over all the devices at once. -/
theorem glob : (bigSep Finset.univ fun c => iprop(Pipeline.ownSems0 (Ix := ℕ) (Name := ℕ) (U := UU) (Lvl := ℕ) (Val := Elt F) (τ := τ) osem c ∗ unscopedSems0 c ∗ G X Wt c) : sProp 𝕄)
    ⊢ |={Set.univ}=> bigSep Finset.univ (G' X Wt) :=
  ((bigSep_mono fun c _ => core_alloc X Wt c).trans (bigSep_fupd _ _)).trans (BI.fupd_mono (regroup X Wt))

/-! ## The end -/

theorem close_one (k : Ck) : iprop(ctx X Wt K ∗ atPos ER (cell c k) (roundOf 1 4 3 3 4 6 k) ∅ 0) ⊢ |={Set.univ}=> (semVal (cell c k) 0 : sProp 𝕄) := by
  unfold ctx
  iintro ⟨⟨HI, -⟩, Hat⟩
  iapply (Rounds.cell_close ER (Rd X Wt) (Set.mem_univ (K (c, k))) (fun h => h) (R := roundOf 1 4 3 3 4 6 k)
    fun r hr => by rw [duties_cell]; exact round_last k r hr)
  isplitl [HI]
  · iapply (show (bigSep Finset.univ fun ck : Dev nD × Ck => (cellInv ER (Rd X Wt) (K ck) (cell ck.1 ck.2) : sProp 𝕄)) ⊢ cellInv ER (Rd X Wt) (K (c, k)) (cell c k) from
      bigSep_elim (Finset.mem_univ (c, k))) $$ HI
  · iexact Hat

/-- Every cell closes at zero. -/
theorem close_all : iprop(ctx X Wt K ∗ posR (F := F) c 1 4 3 3 4 6) ⊢ |={Set.univ}=>
    iprop(Pipeline.ownSems0 (Ix := ℕ) (Name := ℕ) (U := UU) (Lvl := ℕ) (Val := Elt F) (τ := τ) osem c ∗ (unscopedSems0 c : sProp 𝕄)) := by
  rw [sems_eq, ← pos_all]
  refine BIBase.Entails.trans ?_ (bigSep_fupd _ _)
  exact BI.bigSep_with_persistent fun k _ => close_one X Wt K c k

end Cert.KernelIdeal.Hand

end
-- ==== Proof.Parts.lean ====
/- Cutting the buffers into the parts the kernel works on, and putting them together again. -/
module

public import proofs.«01_k».proof.Proof.Alloc

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (c : Dev nD)

/-! ## The slots of the exchange buffer -/

abbrev cR (x : Fin 8 × Fin 2) : Rect S8x2x512x1024 := cRect x.1 x.2

theorem cR_disj (x y : Fin 8 × Fin 2) (h : x ≠ y) : Disjoint (cR x).set (cR y).set := by
  rw [Finset.disjoint_left]
  intro i hi hi'
  rw [Rect.mem_set_unit] at hi hi'
  have h1 := hi 0
  have h2 := hi' 0
  have h3 := hi 1
  have h4 := hi' 1
  simp at h1 h2 h3 h4
  exact h (Prod.ext (Fin.ext (by omega)) (Fin.ext (by omega)))

theorem cR_cov : (Finset.univ : Finset (Fin 8 × Fin 2)).biUnion (fun x => (cR x).set) = Finset.univ := by
  ext i
  simp only [Finset.mem_biUnion, Finset.mem_univ, true_and, iff_true]
  refine ⟨(i 0, i 1), ?_⟩
  rw [Rect.mem_set_unit]
  intro a
  fin_cases a
  · exact ⟨le_rfl, Nat.lt_succ_self _⟩
  · exact ⟨le_rfl, Nat.lt_succ_self _⟩
  · exact ⟨Nat.zero_le _, by have := (i 2).isLt; simpa using this⟩
  · exact ⟨Nat.zero_le _, by have := (i 3).isLt; simpa using this⟩

theorem part_slot (q : Fin 8) (b : Fin 2) (v : (cRect q b).shape.Idx → Elt F .bf16) :
    (owns (c : Thread nD τ) (commRef.slice (cRect q b) (fun _ => rfl)) fullShare v : sProp 𝕄) ⊢ slotAny (F := F) c q b := by
  unfold slotAny slotIs owns
  rw [show (slotB q b).view.set = (commRef.slice (cRect q b) (fun _ => rfl)).view.set from View.set_reshape _ _]
  iintro ⟨%g, %hg, H⟩
  iexists _
  iexists g
  isplitr
  · ipureintro; rfl
  · iexact H

theorem whole_owns (b : Ref sig .tc) (f : Buf (Elt F) ((c : Thread nD τ).loc b)) :
    ((((c : Thread nD τ).loc b) ↦{fullShare} f) : sProp 𝕄) ⊢ owns (c : Thread nD τ) (Memref.whole b) fullShare f := by
  unfold owns; simp only [Memref.view_whole, View.read_whole, View.set_whole]
  iintro H
  iexists f
  isplitr
  · ipureintro; rfl
  · iexact H

theorem comm_parts (v : Vec F S8x2x512x1024 .bf16) :
    (owns (c : Thread nD τ) commRef fullShare v : sProp 𝕄) ⊢ bigSep Finset.univ fun x : Fin 8 × Fin 2 => slotAny (F := F) c x.1 x.2 :=
  (owns_rects (c : Thread nD τ) commRef fullShare cR (fun _ _ => rfl) cR_disj cR_cov v).trans
    (bigSep_mono fun x _ => part_slot c x.1 x.2 _)

theorem comm_split (f : Buf (Elt F) ((c : Thread nD τ).loc cc0_scratch0)) :
    ((((c : Thread nD τ).loc cc0_scratch0) ↦{fullShare} f) : sProp 𝕄)
      ⊢ iprop((bigSep Finset.univ fun q => slotAny (F := F) c q 0) ∗ bigSep Finset.univ fun q => slotAny (F := F) c q 1) :=
  ((whole_owns c cc0_scratch0 f).trans (comm_parts c f)).trans
    (Entails.of_eq (prod_run fun x : Fin 8 × Fin 2 => slotAny (F := F) c x.1 x.2))

theorem slot_part (x : Fin 8 × Fin 2) : slotAny (F := F) c x.1 x.2
    ⊢ iprop(∃ f : Buf (Elt F) ((c : Thread nD τ).loc cc0_scratch0), (((c : Thread nD τ).loc cc0_scratch0) ↦[(cR x).set]{fullShare} f)) := by
  unfold slotAny slotIs owns
  rw [show (slotB x.1 x.2).view.set = (commRef.access (cRect x.1 x.2)).set from slot_set x.1 x.2,
    show (commRef.access (cRect x.1 x.2)).set = (cR x).set from by
      ext i
      simp only [Memref.access, View.set_slice, Memref.view_whole]
      simp only [View.set, Finset.mem_map]
      exact ⟨fun ⟨a, ha, e⟩ => e ▸ ha, fun h => ⟨i, h, rfl⟩⟩]
  iintro ⟨%v, %g, -, H⟩
  iexists g
  iexact H

theorem comm_join : (bigSep Finset.univ fun q => iprop(slotAny (F := F) c q 0 ∗ slotAny (F := F) c q 1))
    ⊢ iprop(∃ f : Buf (Elt F) ((c : Thread nD τ).loc cc0_scratch0), (((c : Thread nD τ).loc cc0_scratch0) ↦{fullShare} f : sProp 𝕄)) := by
  rw [bigSep_sep', ← prod_run fun x : Fin 8 × Fin 2 => slotAny (F := F) c x.1 x.2]
  have h1 : (bigSep Finset.univ fun x : Fin 8 × Fin 2 => slotAny (F := F) c x.1 x.2)
      ⊢ iprop(∃ fs : Fin 8 × Fin 2 → Buf (Elt F) ((c : Thread nD τ).loc cc0_scratch0),
        bigSep Finset.univ fun x => ((((c : Thread nD τ).loc cc0_scratch0) ↦[(cR x).set]{fullShare} fs x) : sProp 𝕄)) :=
    (bigSep_mono fun x _ => slot_part c x).trans (BI.bigSep_exists_pi Finset.univ _)
  iintro H
  ihave H := h1 $$ H
  icases H with ⟨%fs, H⟩
  ihave H := (pointsTo_biUnion_join Finset.univ (fun x => (cR x).set) fs (fs (0, 0)) (fun x _ y _ h => cR_disj x y h)) $$ H
  rw [cR_cov]
  icases H with ⟨%g, -, H⟩
  iexists g
  iexact H

/-! ## The columns of the result -/

theorem tR_disj (x y : Fin 8) (h : x ≠ y) : Disjoint (tRect x).set (tRect y).set := by
  rw [Finset.disjoint_left]
  intro i hi hi'
  rw [Rect.mem_set_unit] at hi hi'
  have h1 := hi 1
  have h2 := hi' 1
  simp at h1 h2
  exact h (Fin.ext (by omega))

theorem tR_cov : (Finset.univ : Finset (Fin 8)).biUnion (fun x => (tRect x).set) = Finset.univ := by
  ext i
  simp only [Finset.mem_biUnion, Finset.mem_univ, true_and, iff_true]
  have h1 : (i 1).val < 8192 := (i 1).isLt
  refine ⟨⟨(i 1).val / 1024, by omega⟩, ?_⟩
  rw [Rect.mem_set_unit]
  intro a
  fin_cases a
  · exact ⟨Nat.zero_le _, by have := (i 0).isLt; simpa using this⟩
  · simp
    omega

/-- Eight blocks of columns, side by side. -/
def sideBySide (v : Fin 8 → Vec F S512x1024 .f32) : Vec F S512x8192 .f32 := fun i =>
  v ⟨(i 1).val / 1024, by have h : (i 1).val < 8192 := (i 1).isLt; omega⟩ (fun a => match a with
    | ⟨0, _⟩ => ⟨(i 0).val, (i 0).isLt⟩
    | ⟨1, _⟩ => ⟨(i 1).val % 1024, Nat.mod_lt _ (by decide)⟩)

theorem side_col (v : Fin 8 → Vec F S512x1024 .f32) (j : Fin 8) : v j = fun p => sideBySide v ((tRect j).emb p) := by
  funext p
  have h1 : (p 1).val < 1024 := (p 1).isLt
  have e0 : ((tRect j).emb p 0).val = 0 + 1 * (p 0).val := rfl
  have e1 : ((tRect j).emb p 1).val = 1024 * j.val + 1 * (p 1).val := rfl
  unfold sideBySide
  have ej : (⟨((tRect j).emb p 1).val / 1024, by have h : ((tRect j).emb p 1).val < 8192 := ((tRect j).emb p 1).isLt; omega⟩ : Fin 8) = j :=
    Fin.ext (by show ((tRect j).emb p 1).val / 1024 = j.val; omega)
  rw [ej]
  congr 1
  funext a
  fin_cases a
  · exact Fin.ext (by show (p 0).val = ((tRect j).emb p 0).val; omega)
  · exact Fin.ext (by show (p 1).val = ((tRect j).emb p 1).val % 1024; omega)

theorem cols_split (v : Vec F S512x8192 .f32) :
    (owns (c : Thread nD τ) oRef fullShare v : sProp 𝕄) ⊢ bigSep Finset.univ fun j => colAny (F := F) c j :=
  (owns_rects (c : Thread nD τ) oRef fullShare tRect (fun _ _ => rfl) tR_disj tR_cov v).trans
    (bigSep_mono fun j _ => show _ ⊢ colAny (F := F) c j from by
      unfold colAny colIs
      iintro H
      iexists _
      iexact H)

theorem cols_join (v : Fin 8 → Vec F S512x1024 .f32) :
    (bigSep Finset.univ fun j => (colIs c j (v j) : sProp 𝕄)) ⊢ owns (c : Thread nD τ) oRef fullShare (sideBySide v) := by
  refine BIBase.Entails.trans (Entails.of_eq (bigSep_congr fun j _ => ?_))
    (owns_of_rects (c : Thread nD τ) oRef fullShare tRect (fun _ _ => rfl) tR_disj tR_cov (sideBySide v))
  unfold colIs
  rw [← side_col]

end Cert.KernelIdeal.Hand

end
-- ==== Proof.Run.lean ====
/- The launch: the body in its place, the side conditions, and the run on the eight devices. -/
module

public import proofs.«01_k».proof.Proof.Parts
public import Idealize.ShloMosaic.Lib.Pipeline.CollectiveSegs
public import Idealize.ShloMosaic.Lib.Quiescent

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-! ## The launch's data -/

/-- A device's columns of the first operand. -/
def xin (c : Dev nD) : Vec F S4096x512 .bf16 :=
  (win0_0.blk t0_0).view.read (Elt F) (m ((c : Thread nD τ).loc main_arg0))
/-- A device's rows of the second operand. -/
def win (c : Dev nD) : Vec F S512x8192 .bf16 :=
  (win0_1.blk t0_0).view.read (Elt F) (m ((c : Thread nD τ).loc main_arg1))
/-- A device's rows of the result. -/
def res (c : Dev nD) : Vec F S512x8192 .f32 := sideBySide (outv (xin m) (win m) c)

/-- The two working buffers, whatever they hold. -/
def rest (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

def start (c : Dev nD) : sProp 𝕄 :=
  iprop(G' (xin m) (win m) c ∗ credsR (F := F) c ∗ levAts lab lv)

def Φ₀ (c : Dev nD) : sProp 𝕄 := iprop(start m c ∗ rest (F := F) c)
def Φ₁ (c : Dev nD) : sProp 𝕄 :=
  iprop((Pipeline.ownSems0 (Ix := ℕ) (Name := ℕ) (U := UU) (Lvl := ℕ) (Val := Elt F) (τ := τ) osem c ∗ unscopedSems0 c) ∗ rest (F := F) c)

def dats (_ : Fin 1) (c : Dev nD) : Dat τ (Elt F) ℕ ℕ UU ℕ cfg0 c where
  A w := m ((cfg0.win w).arr.view.loc (c : Thread nD τ))
  after w _ := match w with
    | ⟨0, _⟩ => xin m c
    | ⟨1, _⟩ => win m c
    | ⟨2, _⟩ => res m c
  Φ t := match t with
    | ⟨0, _⟩ => Φ₀ m c
    | ⟨_ + 1, _⟩ => Φ₁ c
  q _ := fullShare
  owed t := match t with
    | ⟨0, _⟩ => AllO c
    | ⟨_ + 1, _⟩ => 0

theorem fetch0 (t : Fin cfg0.N) : (cfg0.win (0 : Fin 3)).fetch t = true := by rw [fin_N0 t]; rfl
theorem fetch1 (t : Fin cfg0.N) : (cfg0.win (1 : Fin 3)).fetch t = true := by rw [fin_N0 t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body in its place -/

/-- A whole buffer holding `X`. -/
abbrev stg (c : Dev nD) (b : Ref sig .tc) (X : b.ty.Contents (Elt F)) : sProp 𝕄 :=
  owns (c : Thread nD τ) (Memref.whole b) fullShare X

def bodyPre (c : Dev nD) : sProp 𝕄 :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ (F := F) c ∗ (dats m 0 c).owesAt 0 t0_0.succ
    ∗ stg c cc0_stg0_0 (xin m c) ∗ stg c cc0_stg1_0 (win m c) ∗ stg c cc0_stg2_0 (res m c))

theorem owes_in (c : Dev nD) : (dats m 0 c).owesAt 0 t0_0.castSucc ⊢ owe (F := F) c (AllO c) := by
  unfold Dat.owesAt Pipeline.owesWithin owe
  iintro ⟨%W, -, H⟩
  iexists W
  iexact H

theorem owes_out (c : Dev nD) : owe (F := F) c 0 ⊢ (dats m 0 c).owesAt 0 t0_0.succ := by
  unfold Dat.owesAt Pipeline.owesWithin owe
  iintro ⟨%W, H⟩
  iexists W
  isplitr
  · ipureintro; exact fun _ _ => Or.inl trivial
  iexact H

theorem ops_in (c : Dev nD) : iprop((∃ d, stg c cc0_stg0_0 ((dats m 0 c).before (0 : Fin 3) t0_0 d))
    ∗ (∃ d, stg c cc0_stg1_0 ((dats m 0 c).before (1 : Fin 3) t0_0 d))) ⊢ opsIs (xin m) (win m) c := by
  unfold opsIs stg
  simp only [owns_whole_eq]
  iintro ⟨⟨%d0, %g0, %h0, H0⟩, ⟨%d1, %g1, %h1, H1⟩⟩
  have e0 : g0 = xin m c := by rw [h0]; unfold Dat.before; rw [if_pos (fetch0 t0_0)]; rfl
  have e1 : g1 = win m c := by rw [h1]; unfold Dat.before; rw [if_pos (fetch1 t0_0)]; rfl
  subst e0 e1
  isplitl [H0] <;> iassumption

theorem ops_out (c : Dev nD) : opsIs (xin m) (win m) c ⊢ iprop(stg c cc0_stg0_0 (xin m c) ∗ stg c cc0_stg1_0 (win m c)) := by
  unfold opsIs
  iintro ⟨H0, H1⟩
  isplitl [H0]
  · iapply (whole_owns c cc0_stg0_0 _); iexact H0
  · iapply (whole_owns c cc0_stg1_0 _); iexact H1

theorem rest_in (c : Dev nD) : iprop(rest (F := F) c ∗ ∃ d, stg c cc0_stg2_0 ((dats m 0 c).before (2 : Fin 3) t0_0 d)) ⊢ bufsR (F := F) c := by
  unfold rest bufsR
  iintro ⟨⟨⟨%f, Hf⟩, ⟨%g, Hg⟩⟩, ⟨%d, Ho⟩⟩
  ihave Hs := (comm_split c f) $$ Hf
  icases Hs with ⟨H0, H1⟩
  isplitl [H0]; · iexact H0
  isplitl [H1]; · iexact H1
  isplitl [Hg]
  · iapply (mslots_split c g)
    iapply (whole_owns c cc0_scratch1 g); iexact Hg
  · iapply (cols_split c ((dats m 0 c).before (2 : Fin 3) t0_0 d)); iexact Ho

theorem rest_out (c : Dev nD) (v : (cc0_scratch1 : Ref sig .tc).ty.Contents (Elt F)) :
    iprop((bigSep Finset.univ fun q => iprop(slotAny (F := F) c q 0 ∗ slotAny (F := F) c q 1)) ∗ stg c cc0_scratch1 v) ⊢ rest (F := F) c := by
  unfold rest stg
  rw [owns_whole_eq]
  iintro ⟨H, ⟨%f, -, Hf⟩⟩
  isplitl [H]
  · iapply (comm_join c); iexact H
  · iexists f; iexact Hf

theorem body_ctx (K : Dev nD × Ck → ℕ) (c : Dev nD) :
    iprop(recs (xin m) (win m) K ∗ levAts lab lv) ⊢ ctx (xin m) (win m) K := by
  unfold recs ctx
  iintro ⟨⟨H1, H2⟩, H3⟩
  isplitl [H1]; · iexact H1
  isplitl [H2]; · iexact H2
  iexact H3

theorem after_body (K : Dev nD × Ck → ℕ) (c : Dev nD) :
    iprop(ctx (xin m) (win m) K ∗ opsIs (xin m) (win m) c ∗ owe (F := F) c 0 ∗ posR (F := F) c 1 4 3 3 4 6
          ∗ (bigSep Finset.univ fun q => iprop(slotAny (F := F) c q 0 ∗ slotAny (F := F) c q 1))
          ∗ owns (c : Thread nD τ) maxRef fullShare (mAll (xin m) (win m)) ∗ bigSep Finset.univ fun j => colIs c j (outv (xin m) (win m) c j))
      ⊢ |={Set.univ}=> bodyPost m c := by
  iintro ⟨#HC, HX, HO, HP, HS, HM, HY⟩
  imod (close_all (xin m) (win m) K c) $$ [HP] with HZ
  · isplitr; · iexact HC
    iexact HP
  imodintro
  unfold bodyPost Φ₁
  ihave HX := (ops_out m c) $$ HX
  icases HX with ⟨H0, H1⟩
  isplitl [HZ HS HM]
  · isplitl [HZ]; · iexact HZ
    iapply (rest_out c (mAll (xin m) (win m)))
    isplitl [HS]; · iexact HS
    iexact HM
  isplitl [HO]
  · iapply (owes_out m c); iexact HO
  isplitl [H0]; · iexact H0
  isplitl [H1]; · iexact H1
  iapply (cols_join c (outv (xin m) (win m) c)); iexact HY

theorem sound_body (c : Dev nD) : bodyPre m c ⊢ WP c (bodyAt0 t0_0) fun _ => bodyPost m c := by
  rw [body_eq]
  refine BIBase.Entails.trans ?_ (wp_fupd _ _ _ _ _)
  unfold bodyPre Φ₀ start G'
  iintro ⟨⟨⟨⟨%K, #HR, HT, HP⟩, HC, #HL⟩, Hb⟩, HO, Hx, Hw, Ho⟩
  iapply (fin (body_wp (xin m) (win m) K c)) $$ [HT HP HC Hb HO Hx Hw Ho]
  · isplitr
    · iapply (body_ctx m K c)
      isplitr; · iexact HR
      iexact HL
    isplitl [Hx Hw]
    · iapply (ops_in m c)
      isplitl [Hx] <;> iassumption
    isplitl [HO]
    · iapply (owes_in m c); iexact HO
    isplitl [HT]; · iexact HT
    isplitl [HC]; · iexact HC
    isplitl [HP]; · iexact HP
    iapply (rest_in m c)
    isplitl [Hb] <;> iassumption
  iintro %_ H
  iapply (after_body m K c)
  isplitr
  · iapply (body_ctx m K c)
    isplitr; · iexact HR
    iexact HL
  iexact H

set_option maxRecDepth 40000 in
theorem body_obligation (c : Dev nD) : BodyObligation (dats (F := F) m 0 c) (defs₀ (F := F)) 𝒱₀ 0 Set.univ := fun t => by
  rw [fin_N0 t]
  rw [bigSep_W0, bigSep_W0]
  exact sound_body m c

/-! ## The launch's side conditions -/

theorem ownSemFacts : Pipeline.OwnSemFacts cfg0.spec osem := by decide

theorem share_eq (c : Dev nD) (w : Fin cfg0.W) : (dats m 0 c).share w = fullShare := by unfold Dat.share; split <;> rfl

theorem lab_of_ne (g : GSem nD τ sig) (h : g.1.2 ≠ .tc) : lab g = ∅ := if_neg h

theorem later_all (c : Dev nD) : Later 0 (AllO c) := by
  rw [show AllO c = FirO c 8 0 + tallyAt (cell (rightD c) kBar) tB 1 + tallyAt (cell (leftD c) kBar) tB 1 from rfl]
  exact ((FirO_later c 0 8 0 (by decide) rfl).add (.one _ _ _ _ (by decide) (by decide))).add (.one _ _ _ _ (by decide) (by decide))

theorem start_intro (c : Dev nD) :
    iprop(Pipeline.unscopedRestP Pipeline.Prefetch.none cfg0.spec c (fun b => m ((c : Thread nD τ).loc b)) ∗ levAts lab lv
        ∗ Pipeline.launchCred AllO c ∗ prngReg c (ρ c) ∗ G' (xin m) (win m) c)
      ⊢ |={Set.univ}=> iprop(start m c ∗ emp) := by
  iintro ⟨-, Hl, Hc, -, HG⟩
  ihave Hc := (launch_creds c) $$ Hc
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ rest
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ rest
  iintro ⟨⟨H1, H2⟩, Hr⟩
  isplitl [H2]; · iexact H2
  isplitl [H1] <;> iassumption

theorem waits (c : Dev nD) : (levAts lab lv : sProp 𝕄) ⊢ Pipeline.cellsWaits cfgs (dats m) 0 0 c :=
  Pipeline.cellsWaits_intro cfgs (dats m) 0 0 c fun w s t =>
    mayWait c _ 0 (by decide) _ (by
      rcases t with ⟨_ | _, ht⟩
      · exact later_all c
      · exact Later.zero 0)

/-! ## The run -/

/-- An array's contents after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 60000 in
/-- Every execution on the eight devices ends, with the arrays at the computed contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := AllO) (howed₀ := fun _ => rfl) (howedN := fun _ => rfl)
    (L := lab) (lv := lv) (hL := lab_of_ne) (hwaits := waits m)
    (G := G (xin m) (win m)) (G' := G' (xin m) (win m)) (u₀ := u₀)
    (hu₀ := by
      unfold u₀
      iintro Hu
      ihave H := (ownU_pair _ _) $$ Hu
      icases H with ⟨HP, HX⟩
      imod (fund_all (xin m) (win m)) $$ HX with HG
      imodintro
      isplitl [HP] <;> iassumption)
    (hglob := glob (xin m) (win m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

theorem final_x (c : Dev nD) : finalA m c (0 : Fin 3) = m ((c : Thread nD τ).loc main_arg0) :=
  (dats (F := F) m 0 c).arrAt_in (0 : Fin 3) rfl _

theorem final_w (c : Dev nD) : finalA m c (1 : Fin 3) = m ((c : Thread nD τ).loc main_arg1) :=
  (dats (F := F) m 0 c).arrAt_in (1 : Fin 3) rfl _

theorem final_read (c : Dev nD) : (win0_2.blk t0_0).view.read (Elt F) (finalA m c (2 : Fin 3)) = res m c := by
  unfold finalA
  rw [show cfg0.N = (t0_0 : Fin cfg0.N).val + 1 from rfl, (dats m 0 c).arrAt_succ (2 : Fin 3) t0_0]
  rw [show (cfg0.win (2 : Fin 3)).flush t0_0 = true from by decide, if_pos rfl]
  exact View.read_write_univ _ _

theorem final_o (c : Dev nD) : finalA m c (2 : Fin 3) = res m c := by
  rw [← final_read m c]
  exact (Memref.read_access_unit_zero (Elt F) main_v1 (funext fun a => by fin_cases a <;> decide) (fun a => by fin_cases a <;> decide) _).symm

theorem xin_eq (c : Dev nD) : xin m c = m ((c : Thread nD τ).loc main_arg0) :=
  Memref.read_access_unit_zero (Elt F) main_arg0 (funext fun a => by fin_cases a <;> decide) (fun a => by fin_cases a <;> decide) _

theorem win_eq (c : Dev nD) : win m c = m ((c : Thread nD τ).loc main_arg1) :=
  Memref.read_access_unit_zero (Elt F) main_arg1 (funext fun a => by fin_cases a <;> decide) (fun a => by fin_cases a <;> decide) _

end Cert.KernelIdeal.Hand

end
-- ==== Proof.Frames.lean ====
/- The three frames: each program runs, leaves its arguments as they were, and leaves every counter at zero. -/
module

public import proofs.«01_k».proof.Defs
public import proofs.«01_k».proof.Proof.Run
public import proofs.«01_k».proof.Proof.Gen.Kernel
public import proofs.«01_k».proof.Proof.Gen.ReferenceIdeal.Value

@[expose] public section

noncomputable section

namespace Cert.Proof

open Idealize.ShloMosaic Idealize.SL.Sem
open Cert.KernelIdeal.Hand (run_main final_x final_w)

theorem frame_ideal : Cert.quiescent_KernelIdeal := fun m ρ _ =>
  (θ_run Cert.KernelIdeal.defs _ _).mono
    (fun _ h => ⟨fun c => ⟨(h.1 c (0 : Fin 3)).trans (final_x m c), (h.1 c (1 : Fin 3)).trans (final_w m c)⟩, h.2⟩)
    (run_main (F := Ideal) m ρ)

/-- The same run over the bits. -/
theorem defs_eq : Cert.Kernel.defs (F := Bits) = Cert.KernelIdeal.defs (F := Bits) := by sl_kernel_rfl

theorem frame_kernel : Cert.quiescent_Kernel := fun m ρ _ => by
  rw [defs_eq]
  exact (θ_run Cert.KernelIdeal.defs _ _).mono
    (fun _ h => ⟨fun c => ⟨(h.1 c (0 : Fin 3)).trans (final_x m c), (h.1 c (1 : Fin 3)).trans (final_w m c)⟩, h.2⟩)
    (run_main (F := Bits) m ρ)

theorem frame_ref : Cert.quiescent_ReferenceIdeal := fun m ρ _ => Cert.ReferenceIdeal.Gen.frame m ρ

end Cert.Proof

end
-- ==== Proof.Scale.lean ====
/- The two ways of scaling: the kernel multiplies by 448 over the maximum, the reference divides by
   the maximum over 448. Over the extended reals both quantise alike, whatever the maximum is. -/
module

public import Idealize.ShloMosaic.PureOps.Ideal.Laws
public import Idealize.ShloMosaic.PureOps.Reduce

@[expose] public section

noncomputable section

namespace Cert.Scale

open Idealize.ShloMosaic

/-- The word of 448. -/
theorem ofBits_448 : (FloatOps.ofBits .f32 0x43E00000#32 : Ideal .f32) = ((448 : ℝ) : EReal) := by
  show Ideal.ofBits .f32 0x43E00000#32 = _
  simp [Ideal.ofBits, Ideal.ieee]
  rw [← EReal.coe_mul]
  norm_num

/-- The word of minus infinity. -/
theorem ofBits_bot : (FloatOps.ofBits .f32 0xFF800000#32 : Ideal .f32) = (⊥ : EReal) := by
  show Ideal.ofBits .f32 0xFF800000#32 = _
  simp [Ideal.ofBits, Ideal.ieee]

/-- The word of zero. -/
theorem ofBits_zero : (FloatOps.ofBits .f32 0x00000000#32 : Ideal .f32) = (0 : EReal) := Ideal.ofBits_zero_f32

/-- Clip to a range and scale back. -/
def clipped (lo hi z s : EReal) : EReal := min hi (max lo z) * s

/-- The scalings agree. -/
theorem scale_eq (lo hi y g : EReal) :
    clipped lo hi (y * Ideal.div ((448 : ℝ) : EReal) g) (Ideal.div g ((448 : ℝ) : EReal))
      = clipped lo hi (Ideal.div y (Ideal.div g ((448 : ℝ) : EReal))) (Ideal.div g ((448 : ℝ) : EReal)) := by
  have h448 : ((448 : ℝ) : EReal) ≠ 0 := by norm_num
  have hd : Ideal.div g ((448 : ℝ) : EReal) = g * (((448 : ℝ)⁻¹ : ℝ) : EReal) := by
    unfold Ideal.div; rw [if_neg h448, EReal.coe_inv]
  have hp : (0 : ℝ) < (448 : ℝ)⁻¹ := by norm_num
  unfold clipped
  rw [hd]
  induction g using EReal.rec with
  | bot =>
    rw [EReal.bot_mul_coe_of_pos hp]
    unfold Ideal.div
    rw [if_neg EReal.bot_ne_zero, if_neg EReal.bot_ne_zero, EReal.inv_bot, mul_zero, mul_zero]
  | top =>
    rw [EReal.top_mul_coe_of_pos hp]
    unfold Ideal.div
    rw [if_neg EReal.top_ne_zero, if_neg EReal.top_ne_zero, EReal.inv_top, mul_zero, mul_zero]
  | coe r =>
    by_cases hr : r = 0
    · subst hr
      rw [EReal.coe_zero, zero_mul, mul_zero, mul_zero]
    · have hr' : (r : EReal) ≠ 0 := by exact_mod_cast hr
      have hs : (r : EReal) * (((448 : ℝ)⁻¹ : ℝ) : EReal) = ((r * (448 : ℝ)⁻¹ : ℝ) : EReal) := (EReal.coe_mul _ _).symm
      have hs0 : ((r * (448 : ℝ)⁻¹ : ℝ) : EReal) ≠ 0 := by
        have : r * (448 : ℝ)⁻¹ ≠ 0 := mul_ne_zero hr (by norm_num)
        exact_mod_cast this
      rw [hs]
      unfold Ideal.div
      rw [if_neg hr', if_neg hs0, ← EReal.coe_inv, ← EReal.coe_inv, ← EReal.coe_mul]
      congr 6
      field_simp

end Cert.Scale

end
-- ==== Proof.Maxima.lean ====
/- A maximum over all of an array: below a bound exactly when every element is. -/
module

public import proofs.«01_k».proof.Proof.Scale

@[expose] public section

noncomputable section

namespace Cert.Scale

open Idealize.ShloMosaic

/-- A reduction to one element, bounded. -/
theorem reduce_le {s t : Shape} {axes : List (Fin s.rank)} (src : FVec Ideal s .f32) (h : s.Reduces axes t)
    (ht : ∀ b, t.size b = 1) (hφ : FKind.Formats .f32) (hacc : (0xFF800000#32 : BitVec 32) = FKind.maximumf.neutral .f32 hφ)
    (j : t.Idx) (b : EReal) :
    (multiReduction .maximumf axes t src 0xFF800000#32 h hφ hacc j : EReal) ≤ b ↔ ∀ i, (src i : EReal) ≤ b := by
  rw [multiReduction_maximumf_eq_fold, Finset.filter_true_of_mem fun i _ => funext fun b => Fin.ext (by
    have := (h.drop i b).isLt; have := (j b).isLt; have := ht b; omega)]
  rw [ofBits_bot]
  refine (Finset.fold_max_le (β := EReal) (α := s.Idx) (f := src) (b := (⊥ : EReal)) (s := Finset.univ) b).trans ?_
  simp

/-- A relaid array has the same elements. -/
theorem forall_shapeCast {s t : Shape} {α : Type} (x : s.Idx → α) (h : s.ShapeCasts t) (P : α → Prop) :
    (∀ j, P (shapeCast t x h j)) ↔ ∀ i, P (x i) := by
  constructor
  · intro H i
    have := H ((Shape.reshapeEquiv h).symm i)
    unfold shapeCast at this
    rwa [Equiv.apply_symm_apply] at this
  · intro H j
    exact H _

/-- Bounds on an absolute value are bounds from zero on. -/
theorem zero_le_of_abs {y b : EReal} (h : max y (-y) ≤ b) : 0 ≤ b := by
  rcases le_total 0 y with hy | hy
  · exact hy.trans ((le_max_left _ _).trans h)
  · exact (EReal.neg_nonneg.mpr hy).trans ((le_max_right _ _).trans h)

end Cert.Scale

end
-- ==== Proof.Product.lean ====
/- The exchanged sums are the product: what a device has finished, element by element. -/
module

public import proofs.«01_k».proof.Proof.Protocol
public import proofs.«01_k».proof.Proof.Maxima
public import Idealize.ShloMosaic.Lib.MatmulPlain
public import Idealize.ShloMosaic.Lib.Pipeline.Value

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.ValueIdx
open scoped BigOperators

/-! ## Places -/

/-- Whose rows device `c` multiplies for stream `q` as chunk `t`. -/
def owner (c : Dev nD) (q t : Fin 8) : Fin 8 :=
  if q.val % 2 = 0 then ⟨(c.val + 7 - t.val) % 8, Nat.mod_lt _ (by decide)⟩ else ⟨(c.val + 1 + t.val) % 8, Nat.mod_lt _ (by decide)⟩

theorem off_owner (c : Dev nD) (q t : Fin 8) :
    k0_off1 c (BitVec.ofNat 32 (7 + (rix q t).val)) 0 = 512 * (owner c q t).val ∧ k0_off1 c (BitVec.ofNat 32 (7 + (rix q t).val)) 1 = 0 := by
  revert c q t
  decide +kernel

/-- The device a stream comes from, as a number. -/
theorem up_val (q : Fin 8) (c : Dev nD) : (upD q c).val = if q.val % 2 = 0 then (c.val + 7) % 8 else (c.val + 1) % 8 := by
  revert c q
  decide +kernel

theorem owner_up (c : Dev nD) (q : Fin 8) (s : ℕ) (h : s < 7) : owner c q (sq (s + 1)) = owner (upD q c) q (sq s) := by
  have hu := up_val q c
  have hc : c.val < 8 := c.isLt
  have e1 : (sq (s + 1)).val = s + 1 := Nat.mod_eq_of_lt (by omega)
  have e0 : (sq s).val = s := Nat.mod_eq_of_lt (by omega)
  apply Fin.ext
  unfold owner
  by_cases hq : q.val % 2 = 0
  · rw [if_pos hq] at hu ⊢
    rw [if_pos hq]
    show (c.val + 7 - (sq (s + 1)).val) % 8 = ((upD q c).val + 7 - (sq s).val) % 8
    omega
  · rw [if_neg hq] at hu ⊢
    rw [if_neg hq]
    show (c.val + 1 + (sq (s + 1)).val) % 8 = ((upD q c).val + 1 + (sq s).val) % 8
    omega

theorem owner_last (c : Dev nD) (q : Fin 8) : (owner c q 7).val = c.val := by
  have hc : c.val < 8 := c.isLt
  unfold owner
  by_cases hq : q.val % 2 = 0
  · rw [if_pos hq]
    show (c.val + 7 - 7) % 8 = c.val
    omega
  · rw [if_neg hq]
    show (c.val + 1 + 7) % 8 = c.val
    omega

theorem up_iter (q : Fin 8) (k : ℕ) (c : Dev nD) :
    ((upD q)^[k] c).val = if q.val % 2 = 0 then (c.val + 7 * k) % 8 else (c.val + k) % 8 := by
  have hc : c.val < 8 := c.isLt
  induction k with
  | zero =>
    show c.val = _
    split <;> omega
  | succ k ih =>
    rw [Function.iterate_succ_apply', up_val, ih]
    by_cases hq : q.val % 2 = 0
    · simp only [if_pos hq]; omega
    · simp only [if_neg hq]; omega

/-- Going up the ring eight times meets every device once. -/
theorem up_bij (q : Fin 8) (c : Dev nD) : Function.Bijective fun k : Fin 8 => ((upD q)^[k.val] c : Dev nD) := by
  refine (Finite.injective_iff_bijective (α := Fin 8)).mp fun k k' h => Fin.ext ?_
  have h' := congrArg Fin.val h
  have hk : k.val < 8 := k.isLt
  have hk' : k'.val < 8 := k'.isLt
  simp only [up_iter] at h'
  by_cases hq : q.val % 2 = 0
  · simp only [if_pos hq] at h'; omega
  · simp only [if_neg hq] at h'; omega

/-! ## The product -/

variable (x : Vec Ideal ⟨2, ![4096, 4096]⟩ .bf16) (w : Vec Ideal ⟨2, ![4096, 8192]⟩ .bf16)

/-- Position `k` of device `e`'s share of the contracted axis. -/
abbrev kix (e : Fin 8) (k : Fin 512) : Fin 4096 := ⟨512 * e.val + k.val, by omega⟩

/-- Device `e`'s share of the product at row `r` and column `l`. -/
def piece (e : Fin 8) (r : Fin 4096) (l : Fin 8192) : EReal :=
  ∑ k : Fin 512, (x (ix2 r (kix e k)) : EReal) * w (ix2 (kix e k) l)

/-- The whole product. -/
def whole (r : Fin 4096) (l : Fin 8192) : EReal := ∑ k : Fin 4096, (x (ix2 r k) : EReal) * w (ix2 k l)

/-- The eight shares together. -/
theorem pieces (r : Fin 4096) (l : Fin 8192) : ∑ e : Fin 8, piece x w e r l = whole x w r l := by
  unfold piece whole
  rw [← Fintype.sum_prod_type' (f := fun (e : Fin 8) (k : Fin 512) => (x (ix2 r (kix e k)) : EReal) * w (ix2 (kix e k) l))]
  refine Fintype.sum_equiv (finProdFinEquiv (m := 8) (n := 512)) _ _ fun p => ?_
  have e : kix p.1 p.2 = finProdFinEquiv (m := 8) (n := 512) p := Fin.ext (by
    show 512 * p.1.val + p.2.val = p.2.val + 512 * p.1.val
    omega)
  rw [e]

/-- Each device holds its columns of the one operand and its rows of the other. -/
structure Shares (X : Dev nD → Vec Ideal S4096x512 .bf16) (Wt : Dev nD → Vec Ideal S512x8192 .bf16) : Prop where
  hx : ∀ (c : Dev nD) (r : Fin 4096) (k : Fin 512), X c (ix2 r k) = x (ix2 r (kix c k))
  hw : ∀ (c : Dev nD) (k : Fin 512) (l : Fin 8192), Wt c (ix2 k l) = w (ix2 (kix c k) l)

variable {x w}
variable {X : Dev nD → Vec Ideal S4096x512 .bf16} {Wt : Dev nD → Vec Ideal S512x8192 .bf16}

/-- Row `i` of device `o`'s rows. -/
abbrev rowOf (o : Fin 8) (i : Fin 512) : Fin 4096 := ⟨512 * o.val + i.val, by omega⟩
/-- Column `j` of stream `q`'s columns. -/
abbrev colOf (q : Fin 8) (j : Fin 1024) : Fin 8192 := ⟨col q + j.val, by unfold col; omega⟩

/-- One chunk's product. -/
theorem term_apply (hs : Shares x w X Wt) (c : Dev nD) (q t : Fin 8) (i : Fin 512) (j : Fin 1024) :
    (term X Wt c q t (ix2 i j) : EReal) = piece x w c (rowOf (owner c q t) i) (colOf q j) := by
  have ho := off_owner c q t
  unfold term mm piece
  rw [shapeCast_self, shapeCast_self]
  refine (Ideal.matmul_plain_apply (M := 512) (K := 512) (N := 1024) none _ _ _ i j).trans ?_
  rw [show (constant (F := Ideal) S512x1024 .f32 0x00000000#32) (ix2 i j) = (0 : EReal) from Scale.ofBits_zero, zero_add]
  refine Finset.sum_congr rfl fun k _ => ?_
  rw [← hs.hx, ← hs.hw]
  congr 1
  · show X c ((xRect c q t).emb (ix2 i k)) = _
    congr 1
    funext a; apply Fin.ext
    match a with
    | ⟨0, _⟩ =>
      show k0_off1 c (BitVec.ofNat 32 (7 + (rix q t).val)) 0 + 1 * i.val = 512 * (owner c q t).val + i.val
      omega
    | ⟨1, _⟩ =>
      show k0_off1 c (BitVec.ofNat 32 (7 + (rix q t).val)) 1 + 1 * k.val = k.val
      omega
  · show Wt c ((qRect q).emb (ix2 k j)) = _
    congr 1
    funext a; apply Fin.ext
    match a with
    | ⟨0, _⟩ => show 0 + 1 * k.val = k.val; omega
    | ⟨1, _⟩ => show col q + 1 * j.val = col q + j.val; omega

/-- What is sent on: the shares of the devices it has passed. -/
theorem sent_apply (hs : Shares x w X Wt) (q : Fin 8) (i : Fin 512) (j : Fin 1024) (s : ℕ) (h : s < 7) (c : Dev nD) :
    (sent X Wt c q s (ix2 i j) : EReal)
      = ∑ k ∈ Finset.range (s + 1), piece x w ((upD q)^[k] c) (rowOf (owner c q (sq s)) i) (colOf q j) := by
  induction s generalizing c with
  | zero =>
    rw [Finset.sum_range_one]
    exact term_apply hs c q 0 i j
  | succ s ih =>
    rw [Finset.sum_range_succ']
    show (sent X Wt (upD q c) q s (ix2 i j) : EReal) + (term X Wt c q (chunk s) (ix2 i j) : EReal) = _
    rw [ih (by omega), term_apply hs, owner_up c q s (by omega), ← owner_up c q s (by omega)]
    rfl

/-- A finished element is the product's. -/
theorem done_apply (hs : Shares x w X Wt) (c : Dev nD) (q : Fin 8) (i : Fin 512) (j : Fin 1024) :
    (done X Wt c q (ix2 i j) : EReal) = whole x w (rowOf c i) (colOf q j) := by
  have hr : rowOf (owner c q 7) i = rowOf c i := Fin.ext (by
    show 512 * (owner c q 7).val + i.val = 512 * c.val + i.val
    rw [owner_last])
  show (sent X Wt (upD q c) q 6 (ix2 i j) : EReal) + (term X Wt c q 7 (ix2 i j) : EReal) = _
  rw [sent_apply hs q i j 6 (by decide), term_apply hs, ← owner_up c q 6 (by decide), show sq (6 + 1) = 7 from rfl, hr, ← pieces,
    ← (Equiv.ofBijective _ (up_bij q c)).sum_comp]
  rw [show (∑ k : Fin 8, piece x w ((Equiv.ofBijective _ (up_bij q c)) k) (rowOf c i) (colOf q j))
      = ∑ k ∈ Finset.range 8, piece x w ((upD q)^[k] c) (rowOf c i) (colOf q j) from
    (Finset.sum_range fun k => piece x w ((upD q)^[k] c) (rowOf c i) (colOf q j)).symm, Finset.sum_range_succ' _ 7]
  rfl

end Cert.KernelIdeal.Hand

end
-- ==== Proof.Peaks.lean ====
/- The maximum the devices agree on, and an element of the result. -/
module

public import proofs.«01_k».proof.Proof.Product
public import proofs.«01_k».proof.Proof.Whole

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.ValueIdx
open scoped BigOperators

/-- The absolute value, as the programs take it. -/
abbrev mag (y : EReal) : EReal := max y (-y)

/-- A reduction to one element, taken out, bounded. -/
theorem extract_le {s t u : Shape} {axes : List (Fin s.rank)} (src : FVec Ideal s .f32) (h : s.Reduces axes t)
    (ht : ∀ b, t.size b = 1) (hφ : FKind.Formats .f32) (hacc : (0xFF800000#32 : BitVec 32) = FKind.maximumf.neutral .f32 hφ)
    (hu : t.ShapeCasts u) (pos : Fin u.rank → ℕ) (hp : ∀ a, pos a < u.size a) (b : EReal) :
    (extractAt pos (shapeCast u (multiReduction .maximumf axes t src 0xFF800000#32 h hφ hacc) hu) hp : EReal) ≤ b
      ↔ ∀ i, (src i : EReal) ≤ b :=
  Scale.reduce_le src h ht hφ hacc _ b

theorem maxv_le (m : Ideal .f32) (y : FVec Ideal S512x1024 .f32) (b : EReal) :
    (maxv m y : EReal) ≤ b ↔ (m : EReal) ≤ b ∧ ∀ p, mag (y p) ≤ b := by
  unfold maxv
  refine (max_le_iff (α := EReal)).trans (and_congr Iff.rfl ?_)
  refine (extract_le _ _ (t := S1) (by decide) _ _ _ _ _ b).trans ?_
  exact Scale.forall_shapeCast (absf y) shapeCasts_S512x1024_S1x512x1024 fun z : Ideal .f32 => (z : EReal) ≤ b

theorem gmaxv_le (v : Vec Ideal S8x8x128 .f32) (b : EReal) : (gmaxv v : EReal) ≤ b ↔ ∀ i, (v i : EReal) ≤ b := by
  unfold gmaxv
  refine (extract_le _ _ (t := S1) (by decide) _ _ _ _ _ b).trans ?_
  exact Scale.forall_shapeCast v shapeCasts_S8x8x128_S1x8x8x128 fun z : Ideal .f32 => (z : EReal) ≤ b

theorem divf_eq (a b : Ideal .f32) : (Scalar.divf a b : EReal) = Ideal.div a b := rfl

theorem ofBits_eq (b : BitVec 32) : (Scalar.ofBits .f32 b : Ideal .f32) = FloatOps.ofBits .f32 b := rfl

/-- An element quantised. -/
theorem quantv_apply (up down : Ideal .f32) (y : Vec Ideal S512x1024 .f32) (p : S512x1024.Idx) :
    (quantv up down y p : EReal)
      = Scale.clipped (FloatOps.ofBits .f32 0xC3E00000#32 : Ideal .f32) (FloatOps.ofBits .f32 0x43E00000#32 : Ideal .f32)
          ((y p : EReal) * up) down := by
  unfold quantv
  rw [shapeCast_self]
  rfl

variable {x : Vec Ideal ⟨2, ![4096, 4096]⟩ .bf16} {w : Vec Ideal ⟨2, ![4096, 8192]⟩ .bf16}
variable {X : Dev nD → Vec Ideal S4096x512 .bf16} {Wt : Dev nD → Vec Ideal S512x8192 .bf16}

theorem peak_le (c : Dev nD) (n : ℕ) (b : EReal) :
    (peak X Wt c n : EReal) ≤ b ↔ 0 ≤ b ∧ ∀ k < n, ∀ p, mag (done X Wt c (sq k) p) ≤ b := by
  induction n with
  | zero =>
    rw [show (peak X Wt c 0 : EReal) = 0 from Scale.ofBits_zero]
    exact ⟨fun h => ⟨h, fun k hk => absurd hk (Nat.not_lt_zero k)⟩, fun h => h.1⟩
  | succ n ih =>
    refine (maxv_le _ _ b).trans ?_
    rw [ih]
    constructor
    · rintro ⟨⟨h0, h⟩, hn⟩
      refine ⟨h0, fun k hk => ?_⟩
      rcases Nat.lt_succ_iff_lt_or_eq.mp hk with hk | rfl
      · exact h k hk
      · exact hn
    · rintro ⟨h0, h⟩
      exact ⟨⟨h0, fun k hk => h k (by omega)⟩, h n (by omega)⟩

theorem col_qix (j : Fin 8) : col (qix j) = 1024 * j.val := by
  revert j
  decide

/-- The rows and the columns of the whole, taken apart. -/
abbrev rowDev (r : Fin 4096) : Fin 8 := ⟨r.val / 512, by omega⟩
abbrev rowIn (r : Fin 4096) : Fin 512 := ⟨r.val % 512, by omega⟩
abbrev colDev (l : Fin 8192) : Fin 8 := ⟨l.val / 1024, by omega⟩
abbrev colIn (l : Fin 8192) : Fin 1024 := ⟨l.val % 1024, by omega⟩

theorem row_join (r : Fin 4096) : rowOf (rowDev r) (rowIn r) = r := Fin.ext (by
  show 512 * (r.val / 512) + r.val % 512 = r.val
  omega)

theorem col_join (l : Fin 8192) : colOf (qix (colDev l)) (colIn l) = l := Fin.ext (by
  show col (qix (colDev l)) + l.val % 1024 = l.val
  rw [col_qix]
  show 1024 * (l.val / 1024) + l.val % 1024 = l.val
  omega)

/-- The maximum all the devices agree on is that of the whole product. -/
theorem gmx_le (hs : Shares x w X Wt) (b : EReal) : (gmx X Wt : EReal) ≤ b ↔ ∀ r l, mag (whole x w r l) ≤ b := by
  refine (gmaxv_le _ b).trans ?_
  constructor
  · intro h r l
    have h1 : (peak X Wt (rowDev r) 8 : EReal) ≤ b := h fun a => match a with
      | ⟨0, _⟩ => rowDev r
      | ⟨1, _⟩ => (0 : Fin 8)
      | ⟨2, _⟩ => (0 : Fin 128)
    have h2 := ((peak_le _ 8 b).mp h1).2 (qix (colDev l)).val (qix (colDev l)).isLt (ix2 (rowIn r) (colIn l))
    rw [show sq (qix (colDev l)).val = qix (colDev l) from Fin.ext (Nat.mod_eq_of_lt (qix (colDev l)).isLt), done_apply hs, row_join,
      col_join] at h2
    exact h2
  · intro h i
    refine (peak_le (i 0) 8 b).mpr ⟨Scale.zero_le_of_abs (h 0 0), fun k _ p => ?_⟩
    rw [eq_ix2 p]
    exact (congrArg mag (done_apply hs (i 0) (sq k) (p 0) (p 1))).trans_le (h _ _)

/-- An element of a device's result. -/
theorem outv_apply (hs : Shares x w X Wt) (c : Dev nD) (i : Fin 512) (l : Fin 8192) :
    (outv X Wt c (colDev l) (ix2 i (colIn l)) : EReal)
      = Scale.clipped (FloatOps.ofBits .f32 0xC3E00000#32 : Ideal .f32) (FloatOps.ofBits .f32 0x43E00000#32 : Ideal .f32)
          (whole x w (rowOf c i) l * Ideal.div ((448 : ℝ) : EReal) (gmx X Wt)) (Ideal.div (gmx X Wt) ((448 : ℝ) : EReal)) := by
  have hd : (done X Wt c (qix (colDev l)) (ix2 i (colIn l)) : EReal) = whole x w (rowOf c i) l := by
    rw [done_apply hs, col_join]
  unfold outv
  rw [quantv_apply, hd, divf_eq, divf_eq, ofBits_eq, Scale.ofBits_448]

end Cert.KernelIdeal.Hand

end
-- ==== Proof.Algebra.lean ====
/- The value claim: over the extended reals each device ends with its rows of the reference's result. -/
module

public import proofs.«01_k».proof.Defs
public import proofs.«01_k».proof.Proof.Run
public import proofs.«01_k».proof.Proof.Peaks
public import proofs.«01_k».proof.Proof.Gen.ReferenceIdeal.Value
public import Idealize.ShloMosaic.Lib.Layout

@[expose] public section

noncomputable section

namespace Cert.Proof

open Idealize.ShloMosaic Idealize.SL.Sem Idealize.ShloMosaic.ValueIdx
open Cert.KernelIdeal.Hand
open scoped BigOperators

/-! ## The reference, element by element -/

section Reference

open Cert.ReferenceIdeal Cert.ReferenceIdeal.Gen

variable (x : Vec Ideal ⟨2, ![4096, 4096]⟩ .bf16) (w : Vec Ideal ⟨2, ![4096, 8192]⟩ .bf16)

/-- The product. -/
def refY : FVec Ideal S4096x8192 .f32 :=
  matmul (F := Ideal) (φ₁ := .bf16) (φ₂ := .bf16) dot_S4096x4096_S4096x8192_S4096x8192_1_0_0_1_n_n none x w
    (constant S4096x8192 .f32 0x00000000#32)

/-- Its largest magnitude. -/
def refMax (y : FVec Ideal S4096x8192 .f32) : Ideal .f32 :=
  extractAt ![0, 0, 0] (shapeCast S1x1x1
    (multiReduction .maximumf [1, 2] S1 (shapeCast S1x4096x8192 (absf y) shapeCasts_S4096x8192_S1x4096x8192 : FVec Ideal S1x4096x8192 .f32)
      0xFF800000#32 reduces_S1x4096x8192_S1 (.inl rfl) rfl : FVec Ideal S1 .f32) shapeCasts_S1_S1x1x1 : FVec Ideal S1x1x1 .f32) inpos_S1x1x1_p0_0_0

/-- An array quantised by a scale. -/
def refQ (y : FVec Ideal S4096x8192 .f32) (g : Ideal .f32) : FVec Ideal S4096x8192 .f32 :=
  mulf (extf .f32 (truncf .fp8e4m3
      (minimumf (broadcast S4096x8192 (Scalar.ofBits .f32 0x43E00000#32))
        (maximumf (broadcast S4096x8192 (Scalar.ofBits .f32 0xC3E00000#32)) (divf y (broadcast S4096x8192 g)))) bitsLt_fp8e4m3_f32)
      bitsLt_fp8e4m3_f32)
    (broadcast S4096x8192 g)

set_option maxRecDepth 40000 in
theorem ref_eq : k0_pay1 x w = refQ (refY x w) (Scalar.divf (refMax (refY x w)) (Scalar.ofBits .f32 0x43E00000#32)) := rfl

theorem refY_apply (r : Fin 4096) (l : Fin 8192) : (refY x w (ix2 r l) : EReal) = whole x w r l := by
  unfold refY whole
  refine (Ideal.matmul_plain_apply (M := 4096) (K := 4096) (N := 8192) none x w _ r l).trans ?_
  rw [show (constant (F := Ideal) S4096x8192 .f32 0x00000000#32) (ix2 r l) = (0 : EReal) from Scale.ofBits_zero, zero_add]

theorem refMax_le (y : FVec Ideal S4096x8192 .f32) (b : EReal) : (refMax y : EReal) ≤ b ↔ ∀ p, mag (y p) ≤ b := by
  unfold refMax
  refine (extract_le _ _ (t := S1) (by decide) _ _ _ _ _ b).trans ?_
  exact Scale.forall_shapeCast (absf y) shapeCasts_S4096x8192_S1x4096x8192 fun z : Ideal .f32 => (z : EReal) ≤ b

theorem refQ_apply (y : FVec Ideal S4096x8192 .f32) (g : Ideal .f32) (p : S4096x8192.Idx) :
    (refQ y g p : EReal)
      = Scale.clipped (FloatOps.ofBits .f32 0xC3E00000#32 : Ideal .f32) (FloatOps.ofBits .f32 0x43E00000#32 : Ideal .f32)
          (Ideal.div (y p) g) g := rfl

end Reference

/-! ## The two together -/

variable {x : Vec Ideal ⟨2, ![4096, 4096]⟩ .bf16} {w : Vec Ideal ⟨2, ![4096, 8192]⟩ .bf16}
variable {X : Dev Cert.KernelIdeal.nD → Vec Ideal Cert.KernelIdeal.S4096x512 .bf16}
variable {Wt : Dev Cert.KernelIdeal.nD → Vec Ideal Cert.KernelIdeal.S512x8192 .bf16}

/-- The maxima are one. -/
theorem max_eq (hs : Shares x w X Wt) : (gmx X Wt : EReal) = refMax (refY x w) :=
  eq_of_forall_ge_iff fun b => by
    rw [gmx_le hs, refMax_le]
    constructor
    · intro h p
      rw [eq_ix2 p]
      exact (congrArg mag (refY_apply x w (p 0) (p 1))).trans_le (h _ _)
    · intro h r l
      exact (congrArg mag (refY_apply x w r l)).symm.trans_le (h _)

/-- An element of a device's result is the reference's. -/
theorem out_eq (hs : Shares x w X Wt) (c : Dev Cert.KernelIdeal.nD) (i : Fin 512) (l : Fin 8192) :
    (outv X Wt c (colDev l) (ix2 i (colIn l)) : EReal) = Cert.ReferenceIdeal.Gen.k0_pay1 x w (ix2 (rowOf c i) l) := by
  rw [outv_apply hs, Scale.scale_eq, max_eq hs, ref_eq, refQ_apply, refY_apply, divf_eq, ofBits_eq, Scale.ofBits_448]

/-- A device's result is its rows of the reference's. -/
theorem side_eq (hs : Shares x w X Wt) (c : Dev Cert.KernelIdeal.nD) :
    sideBySide (outv X Wt c) = Layout.block ⟨2, ![512, 8192]⟩ ⟨2, ![4096, 8192]⟩ 0 8 c (Cert.ReferenceIdeal.Gen.k0_pay1 x w) := by
  funext i
  have e : sideBySide (outv X Wt c) i = outv X Wt c (colDev (i 1)) (ix2 (i 0) (colIn (i 1))) := by
    unfold sideBySide
    congr 1
    funext a; apply Fin.ext
    match a with
    | ⟨0, _⟩ => rfl
    | ⟨1, _⟩ => rfl
  rw [e]
  refine (out_eq hs c (i 0) (i 1)).trans ?_
  show _ = Cert.ReferenceIdeal.Gen.k0_pay1 x w _
  congr 1
  funext a; apply Fin.ext
  match a with
  | ⟨0, _⟩ =>
    show 512 * c.val + (i 0).val = c.val * 512 + (i 0).val
    omega
  | ⟨1, _⟩ => rfl

/-- Blocks along the contracted axis are shares. -/
theorem shares_of_blocks (hX : ∀ c, X c = Layout.block ⟨2, ![4096, 512]⟩ ⟨2, ![4096, 4096]⟩ 1 8 c x)
    (hW : ∀ c, Wt c = Layout.block ⟨2, ![512, 8192]⟩ ⟨2, ![4096, 8192]⟩ 0 8 c w) : Shares x w X Wt where
  hx c r k := by
    rw [hX c]
    show x _ = x _
    congr 1
    funext a; apply Fin.ext
    match a with
    | ⟨0, _⟩ => rfl
    | ⟨1, _⟩ =>
      show c.val * 512 + k.val = 512 * c.val + k.val
      omega
  hw c k l := by
    rw [hW c]
    show w _ = w _
    congr 1
    funext a; apply Fin.ext
    match a with
    | ⟨0, _⟩ =>
      show c.val * 512 + k.val = 512 * c.val + k.val
      omega
    | ⟨1, _⟩ => rfl

theorem algebraic : Cert.algebraic_KernelIdeal_ReferenceIdeal := fun m ρ m' ρ' _ h => by
  have hs := shares_of_blocks (X := xin m) (Wt := win m) (fun c => (xin_eq m c).trans (h c).1) (fun c => (win_eq m c).trans (h c).2)
  refine ⟨Cert.ReferenceIdeal.Value.G2
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  rotate_left
  · exact (θ_run Cert.ReferenceIdeal.defs _ _).mono (fun _ r => r 0) (Cert.ReferenceIdeal.Value.run m' ρ')
  · refine (θ_run Cert.KernelIdeal.defs _ _).mono (fun _ r c => ⟨?_, (r.1 c (0 : Fin 3)).trans (final_x m c), (r.1 c (1 : Fin 3)).trans (final_w m c)⟩)
      (run_main (F := Ideal) m ρ)
    exact ((r.1 c (2 : Fin 3)).trans (final_o m c)).trans (side_eq hs c)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_ref, trivial, algebraic⟩

end Cert.Proof

end
